-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_pointer [hPre_finite_pointer : Cert.Pre_finite_pointer.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pointer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pointer [hPre_finite_pointer : Cert.Pre_finite_pointer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pointer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_pointer [hKernelIdeal : Cert.KernelIdeal.Facts] [hPre_finite_pointer : Cert.Pre_finite_pointer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pointer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_pointer [hReferenceIdeal : Cert.ReferenceIdeal.Facts] [hPre_finite_pointer : Cert.Pre_finite_pointer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pointer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_pointer [hKernelIdeal : Cert.KernelIdeal.Facts] [hReferenceIdeal : Cert.ReferenceIdeal.Facts] [hPre_finite_pointer : Cert.Pre_finite_pointer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pointer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v14_1)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v21)) (v5 : (c : Dev Cert.KernelIdeal.nD) → Buf (Elt Ideal) ((c.tc : Thread Cert.KernelIdeal.nD Cert.KernelIdeal.τ).loc Cert.KernelIdeal.main_v23)) (v6 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_v23) = v5 c
          ∧ r.2.mem ((c.tc : Thread Cert.KernelIdeal.nD Cert.KernelIdeal.τ).loc Cert.KernelIdeal.main_v14_2) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v13_23) = v1 c
          ∧ r.2.mem ((c.tc : Thread Cert.ReferenceIdeal.nD Cert.ReferenceIdeal.τ).loc Cert.ReferenceIdeal.main_v13_24) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_v36) = v5 c
          ∧ r.2.mem ((c.tc : Thread Cert.ReferenceIdeal.nD Cert.ReferenceIdeal.τ).loc Cert.ReferenceIdeal.main_v13_22) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_pointer : Cert.Pre_finite_pointer.Facts),
    quiescent_Kernel (hKernel := hKernel)
    ∧ quiescent_KernelIdeal (hKernelIdeal := hKernelIdeal)
    ∧ quiescent_KernelIdeal_pre_finite_pointer (hKernelIdeal := hKernelIdeal) (hPre_finite_pointer := hPre_finite_pointer)
    ∧ quiescent_ReferenceIdeal (hReferenceIdeal := hReferenceIdeal)
    ∧ quiescent_ReferenceIdeal_pre_finite_pointer (hReferenceIdeal := hReferenceIdeal) (hPre_finite_pointer := hPre_finite_pointer)
    ∧ preserves_Kernel_KernelIdeal
    ∧ algebraic_KernelIdeal_ReferenceIdeal_pre_finite_pointer (hKernelIdeal := hKernelIdeal) (hReferenceIdeal := hReferenceIdeal) (hPre_finite_pointer := hPre_finite_pointer)
-- ==== Pre_finite_pointer.lean ====
abbrev S128x32x6 : Shape := ⟨3, ![128, 32, 6]⟩
abbrev S128x64x7 : Shape := ⟨3, ![128, 64, 7]⟩
abbrev S128x32x64 : Shape := ⟨3, ![128, 32, 64]⟩
abbrev S6x128 : Shape := ⟨2, ![6, 128]⟩
abbrev S128 : Shape := ⟨1, ![128]⟩
abbrev S8x128 : Shape := ⟨2, ![8, 128]⟩
abbrev S128x128 : Shape := ⟨2, ![128, 128]⟩
abbrev S128x1 : Shape := ⟨2, ![128, 1]⟩
abbrev S_ : Shape := ⟨0, ![]⟩

class Facts : Prop where
  bcast_S_S128x1 : S_.BroadcastsInDim S128x1 (![] : Fin 0 → Fin S128x1.rank)
  reducesTo_S128x1_S_d0_1 : S128x1.ReducesTo [0, 1] S_
  h_S_ : 0 < S_.numel

variable [Facts]

def fn {F : FTy → Type} [FloatOps F] (main_arg0 : FVec F S128x32x6 .f32) (main_arg1 : FVec F S128x64x7 .f32) (main_arg2 : IVec S128x32x64 1) (main_arg3 : FVec F S6x128 .f32) (main_arg4 : FVec F S128 .f32) (main_arg5 : FVec F S8x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128x128 .f32) (main_arg15 : FVec F S128x1 .f32) : IVec S_ 1 :=
  let main_v0 : FVec F S128x1 .f32 := Host.absf main_arg15
  let main_cst : FVec F S_ .f32 := constant S_ .f32 0x7F800000#32
  let main_v1 : FVec F S128x1 .f32 := broadcastInDim S128x1 ![] bcast_S_S128x1 main_cst
  let main_v2 : IVec S128x1 1 := cmpf .olt main_v0 main_v1
  let main_c : IVec S_ 1 := constantI S_ 1 1#1
  let main_v3 : IVec S_ 1 := (fun x v => Host.reduce IntOp.andi x v reducesTo_S128x1_S_d0_1 h_S_) main_v2 main_c
  main_v3
-- ==== Kernel.lean ====
abbrev S128x32x6 : Shape := ⟨3, ![128, 32, 6]⟩
abbrev S128x64x7 : Shape := ⟨3, ![128, 64, 7]⟩
abbrev S128x32x64 : Shape := ⟨3, ![128, 32, 64]⟩
abbrev S6x128 : Shape := ⟨2, ![6, 128]⟩
abbrev S128 : Shape := ⟨1, ![128]⟩
abbrev S8x128 : Shape := ⟨2, ![8, 128]⟩
abbrev S128x128 : Shape := ⟨2, ![128, 128]⟩
abbrev S128x1 : Shape := ⟨2, ![128, 1]⟩
abbrev S_ : Shape := ⟨0, ![]⟩
abbrev S128x64x1 : Shape := ⟨3, ![128, 64, 1]⟩
abbrev S128x64x8 : Shape := ⟨3, ![128, 64, 8]⟩
abbrev S32x128x6 : Shape := ⟨3, ![32, 128, 6]⟩
abbrev S32x128x2 : Shape := ⟨3, ![32, 128, 2]⟩
abbrev S32x128x8 : Shape := ⟨3, ![32, 128, 8]⟩
abbrev S2x128 : Shape := ⟨2, ![2, 128]⟩
abbrev S32x128x64 : Shape := ⟨3, ![32, 128, 64]⟩
abbrev S32x128x4 : Shape := ⟨3, ![32, 128, 4]⟩
abbrev S128x64x3 : Shape := ⟨3, ![128, 64, 3]⟩
abbrev S3x128x64 : Shape := ⟨3, ![3, 128, 64]⟩
abbrev S128x64x4 : Shape := ⟨3, ![128, 64, 4]⟩
abbrev S4x128x64 : Shape := ⟨3, ![4, 128, 64]⟩
abbrev S128x32 : Shape := ⟨2, ![128, 32]⟩
abbrev S128x4 : Shape := ⟨2, ![128, 4]⟩
abbrev S128x64x128 : Shape := ⟨3, ![128, 64, 128]⟩
abbrev S32x128x128 : Shape := ⟨3, ![32, 128, 128]⟩
abbrev S128x64 : Shape := ⟨2, ![128, 64]⟩
abbrev S32x128 : Shape := ⟨2, ![32, 128]⟩
abbrev S8192x8 : Shape := ⟨2, ![8192, 8]⟩
abbrev S8192x128 : Shape := ⟨2, ![8192, 128]⟩
abbrev S1x128 : Shape := ⟨2, ![1, 128]⟩
abbrev S4096x8 : Shape := ⟨2, ![4096, 8]⟩
abbrev S4096x128 : Shape := ⟨2, ![4096, 128]⟩
abbrev S1x128x128 : Shape := ⟨3, ![1, 128, 128]⟩
abbrev S128x1x128 : Shape := ⟨3, ![128, 1, 128]⟩
abbrev S64x128 : Shape := ⟨2, ![64, 128]⟩
abbrev S1x64x128 : Shape := ⟨3, ![1, 64, 128]⟩
abbrev S8192x1 : Shape := ⟨2, ![8192, 1]⟩
abbrev S1x128x64 : Shape := ⟨3, ![1, 128, 64]⟩
abbrev S1x128x4 : Shape := ⟨3, ![1, 128, 4]⟩
abbrev S4x128 : Shape := ⟨2, ![4, 128]⟩
abbrev S4x128x1 : Shape := ⟨3, ![4, 128, 1]⟩
abbrev S3x128 : Shape := ⟨2, ![3, 128]⟩

abbrev nBuf : Space → Nat
  | .hbm => 46
  | .vmem => 32
  | .smem => 0
  | _ => 0

abbrev bufTy : (tb : Table) → Fin (tcTables nBuf tb) → BufTy
  | .hbm, ⟨0, _⟩ => ⟨S128x32x6, .f32⟩
  | .hbm, ⟨1, _⟩ => ⟨S128x64x7, .f32⟩
  | .hbm, ⟨2, _⟩ => ⟨S128x32x64, .i1⟩
  | .hbm, ⟨3, _⟩ => ⟨S6x128, .f32⟩
  | .hbm, ⟨4, _⟩ => ⟨S128, .f32⟩
  | .hbm, ⟨5, _⟩ => ⟨S8x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128x1, .f32⟩
  | .hbm, ⟨16, _⟩ => ⟨S_, .f32⟩
  | .hbm, ⟨17, _⟩ => ⟨S128x64x1, .f32⟩
  | .hbm, ⟨18, _⟩ => ⟨S128x64x8, .f32⟩
  | .hbm, ⟨19, _⟩ => ⟨S32x128x6, .f32⟩
  | .hbm, ⟨20, _⟩ => ⟨S_, .f32⟩
  | .hbm, ⟨21, _⟩ => ⟨S32x128x2, .f32⟩
  | .hbm, ⟨22, _⟩ => ⟨S32x128x8, .f32⟩
  | .hbm, ⟨23, _⟩ => ⟨S_, .f32⟩
  | .hbm, ⟨24, _⟩ => ⟨S2x128, .f32⟩
  | .hbm, ⟨25, _⟩ => ⟨S8x128, .f32⟩
  | .hbm, ⟨26, _⟩ => ⟨S32x128x64, .i1⟩
  | .hbm, ⟨27, _⟩ => ⟨S32x128x64, .f32⟩
  | .hbm, ⟨28, _⟩ => ⟨S32x128x4, .f32⟩
  | .hbm, ⟨29, _⟩ => ⟨S128x64x3, .f32⟩
  | .hbm, ⟨30, _⟩ => ⟨S3x128x64, .f32⟩
  | .hbm, ⟨31, _⟩ => ⟨S128x64x4, .f32⟩
  | .hbm, ⟨32, _⟩ => ⟨S4x128x64, .f32⟩
  | .hbm, ⟨33, _⟩ => ⟨S128x32, .f32⟩
  | .hbm, ⟨34, _⟩ => ⟨S128x32, .i32⟩
  | .hbm, ⟨35, _⟩ => ⟨S128x32, .i32⟩
  | .hbm, ⟨36, _⟩ => ⟨S128x4, .f32⟩
  | .hbm, ⟨37, _⟩ => ⟨S128x1, .f32⟩
  | .hbm, ⟨38, _⟩ => ⟨S128, .f32⟩
  | .hbm, ⟨39, _⟩ => ⟨S32x128, .f32⟩
  | .hbm, ⟨40, _⟩ => ⟨S128x1, .f32⟩
  | .hbm, ⟨41, _⟩ => ⟨S128, .f32⟩
  | .hbm, ⟨42, _⟩ => ⟨S128x1, .f32⟩
  | .hbm, ⟨43, _⟩ => ⟨S128, .f32⟩
  | .hbm, ⟨44, _⟩ => ⟨S128x1, .f32⟩
  | .hbm, ⟨45, _⟩ => ⟨S128, .f32⟩
  | .local _ .vmem, ⟨0, _⟩ => ⟨S128x64x8, .f32⟩
  | .local _ .vmem, ⟨1, _⟩ => ⟨S32x128x8, .f32⟩
  | .local _ .vmem, ⟨2, _⟩ => ⟨S32x128x64, .f32⟩
  | .local _ .vmem, ⟨3, _⟩ => ⟨S32x128x4, .f32⟩
  | .local _ .vmem, ⟨4, _⟩ => ⟨S3x128x64, .f32⟩
  | .local _ .vmem, ⟨5, _⟩ => ⟨S4x128x64, .f32⟩
  | .local _ .vmem, ⟨6, _⟩ => ⟨S8x128, .f32⟩
  | .local _ .vmem, ⟨7, _⟩ => ⟨S128, .f32⟩
  | .local _ .vmem, ⟨8, _⟩ => ⟨S8x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128x128, .f32⟩
  | .local _ .vmem, ⟨18, _⟩ => ⟨S128x1, .f32⟩
  | .local _ .vmem, ⟨19, _⟩ => ⟨S128x32, .f32⟩
  | .local _ .vmem, ⟨20, _⟩ => ⟨S128x32, .i32⟩
  | .local _ .vmem, ⟨21, _⟩ => ⟨S128x32, .i32⟩
  | .local _ .vmem, ⟨22, _⟩ => ⟨S128x4, .f32⟩
  | .local _ .vmem, ⟨23, _⟩ => ⟨S128x64x128, .f32⟩
  | .local _ .vmem, ⟨24, _⟩ => ⟨S128x64x128, .f32⟩
  | .local _ .vmem, ⟨25, _⟩ => ⟨S128x64x128, .f32⟩
  | .local _ .vmem, ⟨26, _⟩ => ⟨S32x128x128, .f32⟩
  | .local _ .vmem, ⟨27, _⟩ => ⟨S4x128x64, .f32⟩
  | .local _ .vmem, ⟨28, _⟩ => ⟨S128x64, .f32⟩
  | .local _ .vmem, ⟨29, _⟩ => ⟨S32x128, .f32⟩
  | .local _ .vmem, ⟨30, _⟩ => ⟨S32x128, .i32⟩
  | .local _ .vmem, ⟨31, _⟩ => ⟨S32x128, .i32⟩
  | _, _ => ⟨S128x32x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v14_2 : Ref sig .tc := ⟨.hbm, 35, rfl⟩
abbrev main_v14_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v73 : BitVec 32 := Scalar.addi c0_i32 c32_i32
  let c1_i32 : BitVec 32 := 1#32
  ⟨c0_i32, v73, c1_i32⟩
def k0_off1 (k0_t1 : Fin k0_t1_loop.trips) : Fin 3 → Nat :=
  let c0_i32 : BitVec 32 := 0#32
  let c1_i32 : BitVec 32 := 1#32
  let arg33 : BitVec 32 := Scf.iv c0_i32 c1_i32 k0_t1
  let v130 : Index := Scalar.indexCast arg33
  let c0_84 : Index := 0#32
  let c0_85 : Index := 0#32
  ![v130.toNat, 0, 0]
def k0_off2 (k0_t1 : Fin k0_t1_loop.trips) : Fin 3 → Nat :=
  let c0_i32 : BitVec 32 := 0#32
  let c1_i32 : BitVec 32 := 1#32
  let arg33 : BitVec 32 := Scf.iv c0_i32 c1_i32 k0_t1
  let v173 : Index := Scalar.indexCast arg33
  let c0_105 : Index := 0#32
  let c0_106 : Index := 0#32
  ![v173.toNat, 0, 0]
def k0_off3 (k0_t1 : Fin k0_t1_loop.trips) : Fin 3 → Nat :=
  let c0_i32 : BitVec 32 := 0#32
  let c1_i32 : BitVec 32 := 1#32
  let arg33 : BitVec 32 := Scf.iv c0_i32 c1_i32 k0_t1
  let v198 : Index := Scalar.indexCast arg33
  let c0_112 : Index := 0#32
  let c0_113 : Index := 0#32
  ![v198.toNat, 0, 0]
def k0_off4 (k0_t1 : Fin k0_t1_loop.trips) : Fin 2 → Nat :=
  let c0_i32 : BitVec 32 := 0#32
  let c1_i32 : BitVec 32 := 1#32
  let arg33 : BitVec 32 := Scf.iv c0_i32 c1_i32 k0_t1
  let v301 : Index := Scalar.indexCast arg33
  let c0_163 : Index := 0#32
  ![v301.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x32 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x32 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S128x4 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== ReferenceIdeal.lean ====
abbrev S128x32x6 : Shape := ⟨3, ![128, 32, 6]⟩
abbrev S128x64x7 : Shape := ⟨3, ![128, 64, 7]⟩
abbrev S128x32x64 : Shape := ⟨3, ![128, 32, 64]⟩
abbrev S6x128 : Shape := ⟨2, ![6, 128]⟩
abbrev S128 : Shape := ⟨1, ![128]⟩
abbrev S8x128 : Shape := ⟨2, ![8, 128]⟩
abbrev S128x128 : Shape := ⟨2, ![128, 128]⟩
abbrev S128x1 : Shape := ⟨2, ![128, 1]⟩
abbrev S_ : Shape := ⟨0, ![]⟩
abbrev S128x32x128 : Shape := ⟨3, ![128, 32, 128]⟩
abbrev S1x1x128 : Shape := ⟨3, ![1, 1, 128]⟩
abbrev S64 : Shape := ⟨1, ![64]⟩
abbrev S32 : Shape := ⟨1, ![32]⟩
abbrev S128x64x4 : Shape := ⟨3, ![128, 64, 4]⟩
abbrev S128x64 : Shape := ⟨2, ![128, 64]⟩
abbrev S128x32 : Shape := ⟨2, ![128, 32]⟩
abbrev S32x128 : Shape := ⟨2, ![32, 128]⟩
abbrev S128x64x3 : Shape := ⟨3, ![128, 64, 3]⟩
abbrev S128x64x1 : Shape := ⟨3, ![128, 64, 1]⟩
abbrev S128x64x8 : Shape := ⟨3, ![128, 64, 8]⟩
abbrev S128x64x128 : Shape := ⟨3, ![128, 64, 128]⟩
abbrev S128x1x64 : Shape := ⟨3, ![128, 1, 64]⟩
abbrev S128x1x128 : Shape := ⟨3, ![128, 1, 128]⟩
abbrev S128x1x1 : Shape := ⟨3, ![128, 1, 1]⟩
abbrev S128x1x6 : Shape := ⟨3, ![128, 1, 6]⟩
abbrev S128x1x4 : Shape := ⟨3, ![128, 1, 4]⟩
abbrev S128x4 : Shape := ⟨2, ![128, 4]⟩
abbrev S1x64 : Shape := ⟨2, ![1, 64]⟩
abbrev S32x1 : Shape := ⟨2, ![32, 1]⟩

abbrev nBuf : Space → Nat
  | .hbm => 267
  | .vmem => 0
  | .smem => 0
  | _ => 0

abbrev hbmTy0_0 (i : Nat) : BufTy := match i % 128 with
  | 0 => ⟨S128x32x6, .f32⟩
  | 1 => ⟨S128x64x7, .f32⟩
  | 2 => ⟨S128x32x64, .i1⟩
  | 3 => ⟨S6x128, .f32⟩
  | 4 => ⟨S128, .f32⟩
  | 5 => ⟨S8x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128x128, .f32⟩
  | 15 => ⟨S128x1, .f32⟩
  | 16 => ⟨S_, .f32⟩
  | 17 => ⟨S_, .f32⟩
  | 18 => ⟨S128x32x128, .f32⟩
  | 19 => ⟨S1x1x128, .f32⟩
  | 20 => ⟨S128x32x128, .f32⟩
  | 21 => ⟨S128x32x128, .f32⟩
  | 22 => ⟨S64, .i32⟩
  | 23 => ⟨S32, .i32⟩
  | 24 => ⟨S128x64x4, .f32⟩
  | 25 => ⟨S_, .i32⟩
  | 26 => ⟨S128x64, .i32⟩
  | 27 => ⟨S_, .i32⟩
  | 28 => ⟨S128x32, .i32⟩
  | 29 => ⟨S128x32, .i32⟩
  | 30 => ⟨S_, .f32⟩
  | 31 => ⟨S32x128, .f32⟩
  | 32 => ⟨S_, .i32⟩
  | 33 => ⟨S128x32, .i32⟩
  | 34 => ⟨S_, .i32⟩
  | 35 => ⟨S_, .i32⟩
  | 36 => ⟨S128x64x7, .f32⟩
  | 37 => ⟨S8x128, .f32⟩
  | 38 => ⟨S128, .f32⟩
  | 39 => ⟨S128x32x64, .i1⟩
  | 40 => ⟨S128x32x128, .f32⟩
  | 41 => ⟨S128x128, .f32⟩
  | 42 => ⟨S128, .f32⟩
  | 43 => ⟨S128x128, .f32⟩
  | 44 => ⟨S128, .f32⟩
  | 45 => ⟨S128x128, .f32⟩
  | 46 => ⟨S128, .f32⟩
  | 47 => ⟨S128x128, .f32⟩
  | 48 => ⟨S128x128, .f32⟩
  | 49 => ⟨S128x1, .f32⟩
  | 50 => ⟨S_, .f32⟩
  | 51 => ⟨S64, .i32⟩
  | 52 => ⟨S128x32x6, .f32⟩
  | 53 => ⟨S32, .i32⟩
  | 54 => ⟨S_, .i32⟩
  | 55 => ⟨S_, .i32⟩
  | 56 => ⟨S128x64x4, .f32⟩
  | 57 => ⟨S128x64, .i32⟩
  | 58 => ⟨S128x32, .i32⟩
  | 59 => ⟨S32x128, .f32⟩
  | 60 => ⟨S128x32, .i32⟩
  | 61 => ⟨S_, .i32⟩
  | 62 => ⟨S_, .i1⟩
  | 63 => ⟨S_, .i32⟩
  | 64 => ⟨S_, .i32⟩
  | 65 => ⟨S128x64x3, .f32⟩
  | 66 => ⟨S128x64x1, .i32⟩
  | 67 => ⟨S128x64x1, .f32⟩
  | 68 => ⟨S128x64x8, .f32⟩
  | 69 => ⟨S128x64x128, .f32⟩
  | 70 => ⟨S1x1x128, .f32⟩
  | 71 => ⟨S128x64x128, .f32⟩
  | 72 => ⟨S128x64x128, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S128x1x64, .i1⟩
  | 82 => ⟨S128x64, .i1⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S128x1x128, .f32⟩
  | 92 => ⟨S128x1x128, .f32⟩
  | 93 => ⟨S1x1x128, .f32⟩
  | 94 => ⟨S128x1x128, .f32⟩
  | 95 => ⟨S128x1x128, .f32⟩
  | 96 => ⟨S128x64x128, .f32⟩
  | 97 => ⟨S1x1x128, .f32⟩
  | 98 => ⟨S128x64x128, .f32⟩
  | 99 => ⟨S128x64x128, .f32⟩
  | 100 => ⟨S128x64x128, .f32⟩
  | 101 => ⟨S1x1x128, .f32⟩
  | 102 => ⟨S128x64x128, .f32⟩
  | 103 => ⟨S128x64x128, .f32⟩
  | 104 => ⟨S128x1x64, .f32⟩
  | 105 => ⟨S_, .f32⟩
  | 106 => ⟨S128x1, .f32⟩
  | 107 => ⟨S_, .f32⟩
  | 108 => ⟨S128x1, .f32⟩
  | 109 => ⟨S128x1, .f32⟩
  | 110 => ⟨S128x1x1, .f32⟩
  | 111 => ⟨S128x1x64, .f32⟩
  | 112 => ⟨S128x1x64, .f32⟩
  | 113 => ⟨S128x1x64, .f32⟩
  | 114 => ⟨S_, .f32⟩
  | 115 => ⟨S128x1, .f32⟩
  | 116 => ⟨S128x1x1, .f32⟩
  | 117 => ⟨S128x1x64, .f32⟩
  | 118 => ⟨S128x1x64, .f32⟩
  | 119 => ⟨S_, .f32⟩
  | 120 => ⟨S128x1x64, .f32⟩
  | 121 => ⟨S128x1x64, .f32⟩
  | 122 => ⟨S128x1x128, .f32⟩
  | 123 => ⟨S128x64x128, .f32⟩
  | 124 => ⟨S128x1x128, .f32⟩
  | 125 => ⟨S128x64x128, .f32⟩
  | 126 => ⟨S128x64x128, .f32⟩
  | 127 => ⟨S128x64x128, .f32⟩
  | _ => ⟨S128x32x6, .f32⟩

abbrev hbmTy0_1 (i : Nat) : BufTy := match i % 128 with
  | 0 => ⟨S128x64x1, .f32⟩
  | 1 => ⟨S128x64, .f32⟩
  | 2 => ⟨S128x64, .f32⟩
  | 3 => ⟨S128x64, .f32⟩
  | 4 => ⟨S_, .f32⟩
  | 5 => ⟨S128, .f32⟩
  | 6 => ⟨S_, .f32⟩
  | 7 => ⟨S128, .f32⟩
  | 8 => ⟨S128, .f32⟩
  | 9 => ⟨S128x1, .f32⟩
  | 10 => ⟨S128x64, .f32⟩
  | 11 => ⟨S128x64, .f32⟩
  | 12 => ⟨S128x64, .f32⟩
  | 13 => ⟨S_, .f32⟩
  | 14 => ⟨S128, .f32⟩
  | 15 => ⟨S128x1, .f32⟩
  | 16 => ⟨S128x64, .f32⟩
  | 17 => ⟨S128x64, .f32⟩
  | 18 => ⟨S_, .f32⟩
  | 19 => ⟨S128, .f32⟩
  | 20 => ⟨S128x1, .f32⟩
  | 21 => ⟨S128x64, .f32⟩
  | 22 => ⟨S128x64, .i1⟩
  | 23 => ⟨S_, .i32⟩
  | 24 => ⟨S_, .i32⟩
  | 25 => ⟨S128x64, .i32⟩
  | 26 => ⟨S128x64, .i32⟩
  | 27 => ⟨S128x64, .i32⟩
  | 28 => ⟨S_, .i32⟩
  | 29 => ⟨S128, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S128x1x6, .f32⟩
  | 39 => ⟨S128x1x4, .f32⟩
  | 40 => ⟨S128x4, .f32⟩
  | 41 => ⟨S128x1, .i32⟩
  | 42 => ⟨S1x64, .i32⟩
  | 43 => ⟨S128x64, .i32⟩
  | 44 => ⟨S128x64, .i32⟩
  | 45 => ⟨S128x64, .i1⟩
  | 46 => ⟨S128x64x1, .i1⟩
  | 47 => ⟨S_, .f32⟩
  | 48 => ⟨S_, .f32⟩
  | 49 => ⟨S128x64x4, .i1⟩
  | 50 => ⟨S128x64x4, .f32⟩
  | 51 => ⟨S128x64x4, .f32⟩
  | 52 => ⟨S_, .f32⟩
  | 53 => ⟨S128x4, .f32⟩
  | 54 => ⟨S128x4, .i1⟩
  | 55 => ⟨S_, .i1⟩
  | 56 => ⟨S128, .i1⟩
  | 57 => ⟨S_, .i32⟩
  | 58 => ⟨S_, .i32⟩
  | 59 => ⟨S128, .i32⟩
  | 60 => ⟨S128, .i32⟩
  | 61 => ⟨S128x1, .i1⟩
  | 62 => ⟨S128x64, .i1⟩
  | 63 => ⟨S128x64, .i1⟩
  | 64 => ⟨S128x64x1, .i1⟩
  | 65 => ⟨S128x1x4, .f32⟩
  | 66 => ⟨S128x64x4, .f32⟩
  | 67 => ⟨S128x64x4, .f32⟩
  | 68 => ⟨S128x64x4, .i1⟩
  | 69 => ⟨S128x64x4, .f32⟩
  | 70 => ⟨S_, .i32⟩
  | 71 => ⟨S_, .i32⟩
  | 72 => ⟨S128x64, .i32⟩
  | 73 => ⟨S128x64, .i32⟩
  | 74 => ⟨S_, .i32⟩
  | 75 => ⟨S32, .i32⟩
  | 76 => ⟨S32, .i1⟩
  | 77 => ⟨S128x1, .i32⟩
  | 78 => ⟨S128x32, .i1⟩
  | 79 => ⟨S128x32, .i32⟩
  | 80 => ⟨S128x32, .i32⟩
  | 81 => ⟨S32x1, .i32⟩
  | 82 => ⟨S_, .i32⟩
  | 83 => ⟨S32x1, .i32⟩
  | 84 => ⟨S32x1, .i1⟩
  | 85 => ⟨S32x128, .i1⟩
  | 86 => ⟨S32x128, .f32⟩
  | 87 => ⟨S32x128, .f32⟩
  | 88 => ⟨S_, .i32⟩
  | 89 => ⟨S32, .i32⟩
  | 90 => ⟨S32, .i1⟩
  | 91 => ⟨S128x1, .i32⟩
  | 92 => ⟨S128x32, .i1⟩
  | 93 => ⟨S128x32, .i32⟩
  | 94 => ⟨S128x32, .i32⟩
  | 95 => ⟨S_, .i32⟩
  | 96 => ⟨S_, .i32⟩
  | 97 => ⟨S_, .i32⟩
  | 98 => ⟨S128x32, .i32⟩
  | 99 => ⟨S128x32, .i1⟩
  | 100 => ⟨S128x32, .i32⟩
  | 101 => ⟨S_, .i32⟩
  | 102 => ⟨S128, .i32⟩
  | 103 => ⟨S128, .f32⟩
  | 104 => ⟨S_, .f32⟩
  | 105 => ⟨S128, .f32⟩
  | 106 => ⟨S128, .f32⟩
  | 107 => ⟨S_, .i32⟩
  | 108 => ⟨S128, .i32⟩
  | 109 => ⟨S128, .f32⟩
  | 110 => ⟨S_, .f32⟩
  | 111 => ⟨S128, .f32⟩
  | 112 => ⟨S128, .f32⟩
  | 113 => ⟨S128x64x4, .f32⟩
  | 114 => ⟨S128x64x1, .i32⟩
  | 115 => ⟨S_, .i32⟩
  | 116 => ⟨S128x64x1, .i32⟩
  | 117 => ⟨S128x64x1, .i1⟩
  | 118 => ⟨S128x64x1, .i1⟩
  | 119 => ⟨S_, .f32⟩
  | 120 => ⟨S_, .f32⟩
  | 121 => ⟨S128x64x4, .i1⟩
  | 122 => ⟨S128x64x4, .f32⟩
  | 123 => ⟨S128x64x4, .f32⟩
  | 124 => ⟨S_, .f32⟩
  | 125 => ⟨S_, .f32⟩
  | 126 => ⟨S128x64x4, .i1⟩
  | 127 => ⟨S128x64x4, .f32⟩
  | _ => ⟨S128x32x6, .f32⟩

abbrev hbmTy0_2 (i : Nat) : BufTy := match i % 128 with
  | 0 => ⟨S128x64x4, .f32⟩
  | 1 => ⟨S_, .f32⟩
  | 2 => ⟨S128, .f32⟩
  | 3 => ⟨S_, .f32⟩
  | 4 => ⟨S128, .f32⟩
  | 5 => ⟨S128, .f32⟩
  | 6 => ⟨S_, .f32⟩
  | 7 => ⟨S128, .f32⟩
  | 8 => ⟨S128, .f32⟩
  | 9 => ⟨S128, .f32⟩
  | 10 => ⟨S128, .f32⟩
  | _ => ⟨S128x32x6, .f32⟩

abbrev hbmTy (i : Nat) : BufTy := match i / 128 with
  | 0 => hbmTy0_0 i
  | 1 => hbmTy0_1 i
  | 2 => hbmTy0_2 i
  | _ => ⟨S128x32x6, .f32⟩

abbrev bufTy : (tb : Table) → Fin (tcTables nBuf tb) → BufTy
  | .hbm, ⟨i, _⟩ => hbmTy i
  | _, _ => ⟨S128x32x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_c_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_c_3 : Ref sig .tc := ⟨.hbm, 34, rfl⟩
abbrev main_c_4 : Ref sig .tc := ⟨.hbm, 35, rfl⟩
abbrev main_v13_0 : Ref sig .tc := ⟨.hbm, 36, rfl⟩
abbrev main_v13_1 : Ref sig .tc := ⟨.hbm, 37, rfl⟩
abbrev main_v13_2 : Ref sig .tc := ⟨.hbm, 38, rfl⟩
abbrev main_v13_3 : Ref sig .tc := ⟨.hbm, 39, rfl⟩
abbrev main_v13_4 : Ref sig .tc := ⟨.hbm, 40, rfl⟩
abbrev main_v13_5 : Ref sig .tc := ⟨.hbm, 41, rfl⟩
abbrev main_v13_6 : Ref sig .tc := ⟨.hbm, 42, rfl⟩
abbrev main_v13_7 : Ref sig .tc := ⟨.hbm, 43, rfl⟩
abbrev main_v13_8 : Ref sig .tc := ⟨.hbm, 44, rfl⟩
abbrev main_v13_9 : Ref sig .tc := ⟨.hbm, 45, rfl⟩
abbrev main_v13_10 : Ref sig .tc := ⟨.hbm, 46, rfl⟩
abbrev main_v13_11 : Ref sig .tc := ⟨.hbm, 47, rfl⟩
abbrev main_v13_12 : Ref sig .tc := ⟨.hbm, 48, rfl⟩
abbrev main_v13_13 : Ref sig .tc := ⟨.hbm, 49, rfl⟩
abbrev main_v13_14 : Ref sig .tc := ⟨.hbm, 50, rfl⟩
abbrev main_v13_15 : Ref sig .tc := ⟨.hbm, 51, rfl⟩
abbrev main_v13_16 : Ref sig .tc := ⟨.hbm, 52, rfl⟩
abbrev main_v13_17 : Ref sig .tc := ⟨.hbm, 53, rfl⟩
abbrev main_v13_18 : Ref sig .tc := ⟨.hbm, 54, rfl⟩
abbrev main_v13_19 : Ref sig .tc := ⟨.hbm, 55, rfl⟩
abbrev main_v13_20 : Ref sig .tc := ⟨.hbm, 56, rfl⟩
abbrev main_v13_21 : Ref sig .tc := ⟨.hbm, 57, rfl⟩
abbrev main_v13_22 : Ref sig .tc := ⟨.hbm, 58, rfl⟩
abbrev main_v13_23 : Ref sig .tc := ⟨.hbm, 59, rfl⟩
abbrev main_v13_24 : Ref sig .tc := ⟨.hbm, 60, rfl⟩
abbrev main_while0c_c_40 : Ref sig .tc := ⟨.hbm, 61, rfl⟩
abbrev main_while0c_v39 : Ref sig .tc := ⟨.hbm, 62, rfl⟩
abbrev main_while0b_c_40 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_c_41 : Ref sig .tc := ⟨.hbm, 73, rfl⟩
abbrev main_while0b_v48 : Ref sig .tc := ⟨.hbm, 74, rfl⟩
abbrev main_while0b_v49 : Ref sig .tc := ⟨.hbm, 75, rfl⟩
abbrev main_while0b_c_42 : Ref sig .tc := ⟨.hbm, 76, rfl⟩
abbrev main_while0b_v50 : Ref sig .tc := ⟨.hbm, 77, rfl⟩
abbrev main_while0b_v51 : Ref sig .tc := ⟨.hbm, 78, rfl⟩
abbrev main_while0b_c_43 : Ref sig .tc := ⟨.hbm, 79, rfl⟩
abbrev main_while0b_c_44 : Ref sig .tc := ⟨.hbm, 80, rfl⟩
abbrev main_while0b_v52 : Ref sig .tc := ⟨.hbm, 81, rfl⟩
abbrev main_while0b_v53 : Ref sig .tc := ⟨.hbm, 82, rfl⟩
abbrev main_while0b_c_45 : Ref sig .tc := ⟨.hbm, 83, rfl⟩
abbrev main_while0b_v54 : Ref sig .tc := ⟨.hbm, 84, rfl⟩
abbrev main_while0b_v55 : Ref sig .tc := ⟨.hbm, 85, rfl⟩
abbrev main_while0b_c_46 : Ref sig .tc := ⟨.hbm, 86, rfl⟩
abbrev main_while0b_v56 : Ref sig .tc := ⟨.hbm, 87, rfl⟩
abbrev main_while0b_v57 : Ref sig .tc := ⟨.hbm, 88, rfl⟩
abbrev main_while0b_c_47 : Ref sig .tc := ⟨.hbm, 89, rfl⟩
abbrev main_while0b_c_48 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_cst_49 : Ref sig .tc := ⟨.hbm, 105, rfl⟩
abbrev main_while0b_v72 : Ref sig .tc := ⟨.hbm, 106, rfl⟩
abbrev main_while0b_cst_50 : Ref sig .tc := ⟨.hbm, 107, rfl⟩
abbrev main_while0b_v73 : Ref sig .tc := ⟨.hbm, 108, rfl⟩
abbrev main_while0b_v74 : Ref sig .tc := ⟨.hbm, 109, rfl⟩
abbrev main_while0b_v75 : Ref sig .tc := ⟨.hbm, 110, rfl⟩
abbrev main_while0b_v76 : Ref sig .tc := ⟨.hbm, 111, rfl⟩
abbrev main_while0b_v77 : Ref sig .tc := ⟨.hbm, 112, rfl⟩
abbrev main_while0b_v78 : Ref sig .tc := ⟨.hbm, 113, rfl⟩
abbrev main_while0b_cst_51 : Ref sig .tc := ⟨.hbm, 114, rfl⟩
abbrev main_while0b_v79 : Ref sig .tc := ⟨.hbm, 115, rfl⟩
abbrev main_while0b_v80 : Ref sig .tc := ⟨.hbm, 116, rfl⟩
abbrev main_while0b_v81 : Ref sig .tc := ⟨.hbm, 117, rfl⟩
abbrev main_while0b_v82 : Ref sig .tc := ⟨.hbm, 118, rfl⟩
abbrev main_while0b_cst_52 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_v92 : Ref sig .tc := ⟨.hbm, 129, rfl⟩
abbrev main_while0b_call0_v0 : Ref sig .tc := ⟨.hbm, 130, rfl⟩
abbrev main_while0b_v93 : Ref sig .tc := ⟨.hbm, 131, rfl⟩
abbrev main_while0b_cst_53 : Ref sig .tc := ⟨.hbm, 132, rfl⟩
abbrev main_while0b_v94 : Ref sig .tc := ⟨.hbm, 133, rfl⟩
abbrev main_while0b_cst_54 : Ref sig .tc := ⟨.hbm, 134, rfl⟩
abbrev main_while0b_v95 : Ref sig .tc := ⟨.hbm, 135, rfl⟩
abbrev main_while0b_v96 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_cst_55 : Ref sig .tc := ⟨.hbm, 141, rfl⟩
abbrev main_while0b_v101 : Ref sig .tc := ⟨.hbm, 142, rfl⟩
abbrev main_while0b_v102 : Ref sig .tc := ⟨.hbm, 143, rfl⟩
abbrev main_while0b_v103 : Ref sig .tc := ⟨.hbm, 144, rfl⟩
abbrev main_while0b_v104 : Ref sig .tc := ⟨.hbm, 145, rfl⟩
abbrev main_while0b_cst_56 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_c_57 : Ref sig .tc := ⟨.hbm, 151, rfl⟩
abbrev main_while0b_call1_v0 : Ref sig .tc := ⟨.hbm, 152, rfl⟩
abbrev main_while0b_call1_v1 : Ref sig .tc := ⟨.hbm, 153, rfl⟩
abbrev main_while0b_call1_v2 : Ref sig .tc := ⟨.hbm, 154, rfl⟩
abbrev main_while0b_v109 : Ref sig .tc := ⟨.hbm, 155, rfl⟩
abbrev main_while0b_c_58 : Ref sig .tc := ⟨.hbm, 156, rfl⟩
abbrev main_while0b_v110 : Ref sig .tc := ⟨.hbm, 157, rfl⟩
abbrev main_while0b_c_59 : Ref sig .tc := ⟨.hbm, 158, rfl⟩
abbrev main_while0b_v111 : Ref sig .tc := ⟨.hbm, 159, rfl⟩
abbrev main_while0b_v112 : Ref sig .tc := ⟨.hbm, 160, rfl⟩
abbrev main_while0b_c_60 : Ref sig .tc := ⟨.hbm, 161, rfl⟩
abbrev main_while0b_v113 : Ref sig .tc := ⟨.hbm, 162, rfl⟩
abbrev main_while0b_v114 : Ref sig .tc := ⟨.hbm, 163, rfl⟩
abbrev main_while0b_c_61 : Ref sig .tc := ⟨.hbm, 164, rfl⟩
abbrev main_while0b_c_62 : Ref sig .tc := ⟨.hbm, 165, rfl⟩
abbrev main_while0b_v115 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_v122 : Ref sig .tc := ⟨.hbm, 173, rfl⟩
abbrev main_while0b_v123 : Ref sig .tc := ⟨.hbm, 174, rfl⟩
abbrev main_while0b_cst_63 : Ref sig .tc := ⟨.hbm, 175, rfl⟩
abbrev main_while0b_call2_v0 : Ref sig .tc := ⟨.hbm, 176, rfl⟩
abbrev main_while0b_call2_v1 : Ref sig .tc := ⟨.hbm, 177, rfl⟩
abbrev main_while0b_call2_v2 : Ref sig .tc := ⟨.hbm, 178, rfl⟩
abbrev main_while0b_v124 : Ref sig .tc := ⟨.hbm, 179, rfl⟩
abbrev main_while0b_cst_64 : Ref sig .tc := ⟨.hbm, 180, rfl⟩
abbrev main_while0b_v125 : Ref sig .tc := ⟨.hbm, 181, rfl⟩
abbrev main_while0b_v126 : Ref sig .tc := ⟨.hbm, 182, rfl⟩
abbrev main_while0b_c_65 : Ref sig .tc := ⟨.hbm, 183, rfl⟩
abbrev main_while0b_v127 : Ref sig .tc := ⟨.hbm, 184, rfl⟩
abbrev main_while0b_c_66 : Ref sig .tc := ⟨.hbm, 185, rfl⟩
abbrev main_while0b_call3_v0 : Ref sig .tc := ⟨.hbm, 186, rfl⟩
abbrev main_while0b_call3_v1 : Ref sig .tc := ⟨.hbm, 187, rfl⟩
abbrev main_while0b_v128 : Ref sig .tc := ⟨.hbm, 188, rfl⟩
abbrev main_while0b_v129 : Ref sig .tc := ⟨.hbm, 189, rfl⟩
abbrev main_while0b_v130 : Ref sig .tc := ⟨.hbm, 190, rfl⟩
abbrev main_while0b_v131 : Ref sig .tc := ⟨.hbm, 191, rfl⟩
abbrev main_while0b_v132 : Ref sig .tc := ⟨.hbm, 192, rfl⟩
abbrev main_while0b_v133 : Ref sig .tc := ⟨.hbm, 193, rfl⟩
abbrev main_while0b_v134 : Ref sig .tc := ⟨.hbm, 194, rfl⟩
abbrev main_while0b_v135 : Ref sig .tc := ⟨.hbm, 195, rfl⟩
abbrev main_while0b_call4_v0 : Ref sig .tc := ⟨.hbm, 196, rfl⟩
abbrev main_while0b_v136 : Ref sig .tc := ⟨.hbm, 197, rfl⟩
abbrev main_while0b_c_67 : Ref sig .tc := ⟨.hbm, 198, rfl⟩
abbrev main_while0b_call5_v0 : Ref sig .tc := ⟨.hbm, 199, rfl⟩
abbrev main_while0b_call5_v1 : Ref sig .tc := ⟨.hbm, 200, rfl⟩
abbrev main_while0b_v137 : Ref sig .tc := ⟨.hbm, 201, rfl⟩
abbrev main_while0b_v138 : Ref sig .tc := ⟨.hbm, 202, rfl⟩
abbrev main_while0b_v139 : Ref sig .tc := ⟨.hbm, 203, rfl⟩
abbrev main_while0b_v140 : Ref sig .tc := ⟨.hbm, 204, rfl⟩
abbrev main_while0b_v141 : Ref sig .tc := ⟨.hbm, 205, rfl⟩
abbrev main_while0b_call6_v0 : Ref sig .tc := ⟨.hbm, 206, rfl⟩
abbrev main_while0b_call6_v1 : Ref sig .tc := ⟨.hbm, 207, rfl⟩
abbrev main_while0b_v142 : Ref sig .tc := ⟨.hbm, 208, rfl⟩
abbrev main_while0b_v143 : Ref sig .tc := ⟨.hbm, 209, rfl⟩
abbrev main_while0b_v144 : Ref sig .tc := ⟨.hbm, 210, rfl⟩
abbrev main_while0b_v145 : Ref sig .tc := ⟨.hbm, 211, rfl⟩
abbrev main_while0b_v146 : Ref sig .tc := ⟨.hbm, 212, rfl⟩
abbrev main_while0b_call7_v0 : Ref sig .tc := ⟨.hbm, 213, rfl⟩
abbrev main_while0b_call7_v1 : Ref sig .tc := ⟨.hbm, 214, rfl⟩
abbrev main_while0b_v147 : Ref sig .tc := ⟨.hbm, 215, rfl⟩
abbrev main_while0b_v148 : Ref sig .tc := ⟨.hbm, 216, rfl⟩
abbrev main_while0b_v149 : Ref sig .tc := ⟨.hbm, 217, rfl⟩
abbrev main_while0b_v150 : Ref sig .tc := ⟨.hbm, 218, rfl⟩
abbrev main_while0b_v151 : Ref sig .tc := ⟨.hbm, 219, rfl⟩
abbrev main_while0b_call8_v0 : Ref sig .tc := ⟨.hbm, 220, rfl⟩
abbrev main_while0b_call8_v1 : Ref sig .tc := ⟨.hbm, 221, rfl⟩
abbrev main_while0b_v152 : Ref sig .tc := ⟨.hbm, 222, rfl⟩
abbrev main_while0b_c_68 : Ref sig .tc := ⟨.hbm, 223, rfl⟩
abbrev main_while0b_v153 : Ref sig .tc := ⟨.hbm, 224, rfl⟩
abbrev main_c_5 : Ref sig .tc := ⟨.hbm, 225, rfl⟩
abbrev main_v14 : Ref sig .tc := ⟨.hbm, 226, rfl⟩
abbrev main_v15 : Ref sig .tc := ⟨.hbm, 227, rfl⟩
abbrev main_v16 : Ref sig .tc := ⟨.hbm, 228, rfl⟩
abbrev main_c_6 : Ref sig .tc := ⟨.hbm, 229, rfl⟩
abbrev main_v17 : Ref sig .tc := ⟨.hbm, 230, rfl⟩
abbrev main_v18 : Ref sig .tc := ⟨.hbm, 231, rfl⟩
abbrev main_cst_7 : Ref sig .tc := ⟨.hbm, 232, rfl⟩
abbrev main_v19 : Ref sig .tc := ⟨.hbm, 233, rfl⟩
abbrev main_v20 : Ref sig .tc := ⟨.hbm, 234, rfl⟩
abbrev main_c_8 : Ref sig .tc := ⟨.hbm, 235, rfl⟩
abbrev main_v21 : Ref sig .tc := ⟨.hbm, 236, rfl⟩
abbrev main_v22 : Ref sig .tc := ⟨.hbm, 237, rfl⟩
abbrev main_cst_9 : Ref sig .tc := ⟨.hbm, 238, rfl⟩
abbrev main_v23 : Ref sig .tc := ⟨.hbm, 239, rfl⟩
abbrev main_v24 : Ref sig .tc := ⟨.hbm, 240, rfl⟩
abbrev main_v25 : Ref sig .tc := ⟨.hbm, 241, rfl⟩
abbrev main_v26 : Ref sig .tc := ⟨.hbm, 242, rfl⟩
abbrev main_c_10 : Ref sig .tc := ⟨.hbm, 243, rfl⟩
abbrev main_v27 : Ref sig .tc := ⟨.hbm, 244, rfl⟩
abbrev main_v28 : Ref sig .tc := ⟨.hbm, 245, rfl⟩
abbrev main_v29 : Ref sig .tc := ⟨.hbm, 246, rfl⟩
abbrev main_cst_11 : Ref sig .tc := ⟨.hbm, 247, rfl⟩
abbrev main_call9_v0 : Ref sig .tc := ⟨.hbm, 248, rfl⟩
abbrev main_call9_v1 : Ref sig .tc := ⟨.hbm, 249, rfl⟩
abbrev main_call9_v2 : Ref sig .tc := ⟨.hbm, 250, rfl⟩
abbrev main_v30 : Ref sig .tc := ⟨.hbm, 251, rfl⟩
abbrev main_cst_12 : Ref sig .tc := ⟨.hbm, 252, rfl⟩
abbrev main_call10_v0 : Ref sig .tc := ⟨.hbm, 253, rfl⟩
abbrev main_call10_v1 : Ref sig .tc := ⟨.hbm, 254, rfl⟩
abbrev main_call10_v2 : Ref sig .tc := ⟨.hbm, 255, rfl⟩
abbrev main_v31 : Ref sig .tc := ⟨.hbm, 256, rfl⟩
abbrev main_cst_13 : Ref sig .tc := ⟨.hbm, 257, rfl⟩
abbrev main_v32 : Ref sig .tc := ⟨.hbm, 258, rfl⟩
abbrev main_cst_14 : Ref sig .tc := ⟨.hbm, 259, rfl⟩
abbrev main_v33 : Ref sig .tc := ⟨.hbm, 260, rfl⟩
abbrev main_v34 : Ref sig .tc := ⟨.hbm, 261, rfl⟩
abbrev main_cst_15 : Ref sig .tc := ⟨.hbm, 262, rfl⟩
abbrev main_v35 : Ref sig .tc := ⟨.hbm, 263, rfl⟩
abbrev main_v36 : Ref sig .tc := ⟨.hbm, 264, rfl⟩
abbrev main_v37 : Ref sig .tc := ⟨.hbm, 265, rfl⟩
abbrev main_v38 : Ref sig .tc := ⟨.hbm, 266, rfl⟩

abbrev nD : Nat := 1
abbrev τ : Topo := Topo.v7x

variable {F : FTy → Type} [FloatOps F]

abbrev main_while0_count : Scf.Loop 32 := ⟨0#32, 32#32, 1#32⟩
-- ==== Proof.KernelIdealTrip.lean ====
/-
  The run of `KernelIdeal`'s body, on whole memrefs holding given arrays. `Inp` names the nineteen operand blocks, `St` the eight
  scratch arrays and the carried count of the counted loop, `step` one trip on them, `iter` the trips run so far and the
  functions `out…` what the body leaves in its four results. `trip_sound` is one trip of the loop, `body_sound` the body.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Pipeline.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

/-- The nineteen operand blocks the body reads. -/
structure Inp (F : FTy → Type) where
  x1 : Vec F S128x64x8 .f32
  x2 : Vec F S32x128x8 .f32
  x3 : Vec F S32x128x64 .f32
  x4 : Vec F S32x128x4 .f32
  x5 : Vec F S3x128x64 .f32
  x6 : Vec F S4x128x64 .f32
  x7 : Vec F S8x128 .f32
  x8 : Vec F S128 .f32
  x9 : Vec F S8x128 .f32
  x10 : Vec F S128 .f32
  x11 : Vec F S128x128 .f32
  x12 : Vec F S128 .f32
  x13 : Vec F S128x128 .f32
  x14 : Vec F S128 .f32
  x15 : Vec F S128x128 .f32
  x16 : Vec F S128 .f32
  x17 : Vec F S128x128 .f32
  x18 : Vec F S128x128 .f32
  x19 : Vec F S128x1 .f32

/-- The scratch arrays the loop carries (keys, values, encoded projections, capacities, flags, the three result rows) and the carried count. -/
structure St (F : FTy → Type) where
  K : Vec F S128x64x128 .f32
  V : Vec F S128x64x128 .f32
  S1 : Vec F S128x64x128 .f32
  cap : Vec F S4x128x64 .f32
  flag : Vec F S128x64 .f32
  pacc : Vec F S32x128 .f32
  iacc : Vec F S32x128 .i32
  uacc : Vec F S32x128 .i32
  acc : FVec F S128 .f32

/-- The queries of all rows: what the loop's read-only scratch holds. -/
def qs (X : Inp F) : Vec F S32x128x128 .f32 := k0_pay32 X.x2 X.x7 X.x8 X.x11 X.x12
/-- The lane numbers. -/
def lanes : IVec S128x64 32 := iota .tc S128x64 32 [1] iota_S128x64_d1_w32
/-- The pointer network's pre-activation at trip `t`. -/
def ctx (X : Inp F) (t : Fin k0_t1_loop.trips) (s : St F) : FVec F S128x64x128 .f32 :=
  k0_pay5 (k0_pay36 (F := F)) (VecWindow.window (qs X) (k0_off1 t) S1x128x128.size (k0_off1_inb t)) s.K s.V X.x18 s.S1
/-- The mask row of trip `t`. -/
def mrow (X : Inp F) (t : Fin k0_t1_loop.trips) : Vec F S1x128x64 .f32 := VecWindow.window X.x3 (k0_off2 t) S1x128x64.size (k0_off2_inb t)
/-- The workload row of trip `t`. -/
def wrow (X : Inp F) (t : Fin k0_t1_loop.trips) : Vec F S1x128x4 .f32 := VecWindow.window X.x4 (k0_off3 t) S1x128x4.size (k0_off3_inb t)
/-- The largest probability. -/
def prob (X : Inp F) (t : Fin k0_t1_loop.trips) (s : St F) : FVec F S128 .f32 := k0_pay8 (k0_pay26 (F := F)) X.x19 (ctx X t s) (mrow X t)
/-- The chosen server. -/
def idx (X : Inp F) (t : Fin k0_t1_loop.trips) (s : St F) : IVec S128 32 := k0_pay9 (k0_pay26 (F := F)) X.x19 lanes (ctx X t s) (mrow X t)
/-- The chosen server's indicator row. -/
def hot (X : Inp F) (t : Fin k0_t1_loop.trips) (s : St F) : FVec F S128x64 .f32 := k0_pay10 (k0_pay26 (F := F)) X.x19 lanes (ctx X t s) (mrow X t)
/-- The chosen server's capacity. -/
def jcap (X : Inp F) (t : Fin k0_t1_loop.trips) (s : St F) : FVec F S4x128 .f32 := k0_pay12 (k0_pay26 (F := F)) X.x19 lanes (ctx X t s) (mrow X t) s.cap
/-- Whether the chosen server can take the user (1 or 0). -/
def can (X : Inp F) (t : Fin k0_t1_loop.trips) (s : St F) : FVec F S128 .f32 := k0_pay13 (k0_pay26 (F := F)) X.x19 lanes (ctx X t s) (mrow X t) (wrow X t) s.cap
/-- The same over the four resources. -/
def can4 (X : Inp F) (t : Fin k0_t1_loop.trips) (s : St F) : FVec F S4x128 .f32 := k0_pay14 (k0_pay26 (F := F)) X.x19 lanes (ctx X t s) (mrow X t) (wrow X t) s.cap
/-- The row the caches take up at this trip: the indicator where the user is taken. -/
def upd (X : Inp F) (t : Fin k0_t1_loop.trips) (s : St F) : FVec F S128x64 .f32 := k0_pay17 (hot X t s) (can X t s)
/-- The chosen server's new encoding. -/
def enc (X : Inp F) (t : Fin k0_t1_loop.trips) (s : St F) : FVec F S128x128 .f32 :=
  k0_pay20 (hot X t s) (k0_pay11 (wrow X t)) (jcap X t s) (can4 X t s) X.x5 X.x9 X.x10

/-- One trip. -/
def step (X : Inp F) (t : Fin k0_t1_loop.trips) (s : St F) : St F where
  K := k0_pay24 s.K (upd X t s) (enc X t s) X.x13 X.x14
  V := k0_pay25 (upd X t s) (enc X t s) X.x15 X.x16 s.V
  S1 := k0_pay38 (k0_pay21 (enc X t s) X.x17) (k0_pay22 (upd X t s)) (k0_pay23 (upd X t s)) s.S1
  cap := k0_pay16 (hot X t s) (k0_pay11 (wrow X t)) s.cap (can4 X t s)
  flag := k0_pay18 (hot X t s) (can X t s) s.flag
  pacc := VecWindow.put s.pacc (k0_off4 t) S1x128.size (k0_pay39 (prob X t s))
  iacc := VecWindow.put s.iacc (k0_off4 t) S1x128.size (k0_pay40 (idx X t s))
  uacc := VecWindow.put s.uacc (k0_off4 t) S1x128.size (k0_pay41 (k0_pay19 (idx X t s) (can X t s)))
  acc := k0_pay42 s.acc (can X t s)

/-- The state before the first trip, the three result arrays at whatever the scratch holds. -/
def start (X : Inp F) (p : Vec F S32x128 .f32) (q u : Vec F S32x128 .i32) : St F where
  K := k0_pay28 X.x1 X.x9 X.x10 X.x13 X.x14
  V := k0_pay29 X.x1 X.x9 X.x10 X.x15 X.x16
  S1 := k0_pay31 (k0_pay30 X.x1 X.x9 X.x10 X.x17)
  cap := k0_pay33 X.x6
  flag := k0_pay35 (k0_pay34 (F := F))
  pacc := p
  iacc := q
  uacc := u
  acc := k0_pay37 (F := F)

/-- The state before trip `k`. -/
def iter (X : Inp F) (s : St F) : ℕ → St F
  | 0 => s
  | k + 1 => if h : k < k0_t1_loop.trips then step X ⟨k, h⟩ (iter X s k) else iter X s k

theorem iter_succ (X : Inp F) (s : St F) (k : Fin k0_t1_loop.trips) : iter X s (k.val + 1) = step X k (iter X s k.val) := by
  rw [iter, dif_pos k.isLt]

/-- The four results, of the state after the last trip. -/
def outProbs (s : St F) : FVec F S128x32 .f32 := k0_pay2 s.pacc
def outIdx (s : St F) : IVec S128x32 32 := k0_pay3 s.iacc
def outUa (s : St F) : IVec S128x32 32 := k0_pay4 s.uacc
def outProps (X : Inp F) (s : St F) : FVec F S128x4 .f32 :=
  k0_pay1 (k0_pay43 s.acc) (k0_pay44 s.flag) (k0_pay45 s.flag s.cap X.x6) (k0_pay46 s.acc s.flag s.cap X.x6)
    (iota .tc S128x4 32 [1] iota_S128x4_d1_w32) 0#32

/-- A load of a window reads the window of what the view reads. -/
theorem readAt_win {κ : Kind} {sp : Space} {S : Shape} {e : EltTy} (v : View sig κ sp S e) (f : v.ty.Contents (Elt F)) {off size : Fin S.rank → ℕ}
    (inb : ∀ a, off a + size a ≤ S.size a) :
    v.readAt (Elt F) (Rect.unit off size inb).toLoadRect f = VecWindow.window (v.read (Elt F) f) off size inb := rfl

/-! A window of the whole extent is the array. -/
theorem full_S128x64x128 {α : Type} (x : S128x64x128.Idx → α) (inb) : VecWindow.window x ![0, 0, 0] ![128, 64, 128] inb = x :=
  funext fun y => congrArg x (Rect.emb_unit_full (s := S128x64x128) inb y)
theorem full_S128x128 {α : Type} (x : S128x128.Idx → α) (inb) : VecWindow.window x ![0, 0] ![128, 128] inb = x :=
  funext fun y => congrArg x (Rect.emb_unit_full (s := S128x128) inb y)
theorem full_S128 {α : Type} (x : S128.Idx → α) (inb) : VecWindow.window x ![0] ![128] inb = x :=
  funext fun y => congrArg x (Rect.emb_unit_full (s := S128) inb y)
theorem full_S4x128x64 {α : Type} (x : S4x128x64.Idx → α) (inb) : VecWindow.window x ![0, 0, 0] ![4, 128, 64] inb = x :=
  funext fun y => congrArg x (Rect.emb_unit_full (s := S4x128x64) inb y)
theorem full_S128x64 {α : Type} (x : S128x64.Idx → α) (inb) : VecWindow.window x ![0, 0] ![128, 64] inb = x :=
  funext fun y => congrArg x (Rect.emb_unit_full (s := S128x64) inb y)
theorem full_S3x128x64 {α : Type} (x : S3x128x64.Idx → α) (inb) : VecWindow.window x ![0, 0, 0] ![3, 128, 64] inb = x :=
  funext fun y => congrArg x (Rect.emb_unit_full (s := S3x128x64) inb y)
theorem full_S8x128 {α : Type} (x : S8x128.Idx → α) (inb) : VecWindow.window x ![0, 0] ![8, 128] inb = x :=
  funext fun y => congrArg x (Rect.emb_unit_full (s := S8x128) inb y)
theorem full_S128x1 {α : Type} (x : S128x1.Idx → α) (inb) : VecWindow.window x ![0, 0] ![128, 1] inb = x :=
  funext fun y => congrArg x (Rect.emb_unit_full (s := S128x1) inb y)
theorem full_S128x64x8 {α : Type} (x : S128x64x8.Idx → α) (inb) : VecWindow.window x ![0, 0, 0] ![128, 64, 8] inb = x :=
  funext fun y => congrArg x (Rect.emb_unit_full (s := S128x64x8) inb y)
theorem full_S32x128x8 {α : Type} (x : S32x128x8.Idx → α) (inb) : VecWindow.window x ![0, 0, 0] ![32, 128, 8] inb = x :=
  funext fun y => congrArg x (Rect.emb_unit_full (s := S32x128x8) inb y)
theorem full_S32x128 {α : Type} (x : S32x128.Idx → α) (inb) : VecWindow.window x ![0, 0] ![32, 128] inb = x :=
  funext fun y => congrArg x (Rect.emb_unit_full (s := S32x128) inb y)

section Run

variable (c : Dev nD) (i : grid0.Coords) (arg1 : Memref sig .tc .vmem S128x64x8 .f32) (harg1 : arg1.IsWhole) (arg2 : Memref sig .tc .vmem S32x128x8 .f32) (harg2 : arg2.IsWhole) (arg3 : Memref sig .tc .vmem S32x128x64 .f32) (harg3 : arg3.IsWhole) (arg4 : Memref sig .tc .vmem S32x128x4 .f32) (harg4 : arg4.IsWhole) (arg5 : Memref sig .tc .vmem S3x128x64 .f32) (harg5 : arg5.IsWhole) (arg6 : Memref sig .tc .vmem S4x128x64 .f32) (harg6 : arg6.IsWhole) (arg7 : Memref sig .tc .vmem S8x128 .f32) (harg7 : arg7.IsWhole) (arg8 : Memref sig .tc .vmem S128 .f32) (harg8 : arg8.IsWhole) (arg9 : Memref sig .tc .vmem S8x128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S128x128 .f32) (harg13 : arg13.IsWhole) (arg14 : Memref sig .tc .vmem S128 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x1 .f32) (harg19 : arg19.IsWhole) (arg20 : Memref sig .tc .vmem S128x32 .f32) (harg20 : arg20.IsWhole) (arg21 : Memref sig .tc .vmem S128x32 .i32) (harg21 : arg21.IsWhole) (arg22 : Memref sig .tc .vmem S128x32 .i32) (harg22 : arg22.IsWhole) (arg23 : Memref sig .tc .vmem S128x4 .f32) (harg23 : arg23.IsWhole) (arg24 : Memref sig .tc .vmem S128x64x128 .f32) (harg24 : arg24.IsWhole) (arg25 : Memref sig .tc .vmem S128x64x128 .f32) (harg25 : arg25.IsWhole) (arg26 : Memref sig .tc .vmem S128x64x128 .f32) (harg26 : arg26.IsWhole) (arg27 : Memref sig .tc .vmem S32x128x128 .f32) (harg27 : arg27.IsWhole) (arg28 : Memref sig .tc .vmem S4x128x64 .f32) (harg28 : arg28.IsWhole) (arg29 : Memref sig .tc .vmem S128x64 .f32) (harg29 : arg29.IsWhole) (arg30 : Memref sig .tc .vmem S32x128 .f32) (harg30 : arg30.IsWhole) (arg31 : Memref sig .tc .vmem S32x128 .i32) (harg31 : arg31.IsWhole) (arg32 : Memref sig .tc .vmem S32x128 .i32) (harg32 : arg32.IsWhole)

/-- What a trip reads and leaves alone. -/
abbrev ROs (X : Inp F) : sProp (MT nD τ sig Unit (Elt F) ℕ (UU nD τ) ℕ) :=
  iprop(owns (c : Thread nD τ) arg3 fullShare X.x3 ∗ owns (c : Thread nD τ) arg4 fullShare X.x4 ∗ owns (c : Thread nD τ) arg5 fullShare X.x5 ∗ owns (c : Thread nD τ) arg9 fullShare X.x9 ∗ owns (c : Thread nD τ) arg10 fullShare X.x10 ∗ owns (c : Thread nD τ) arg13 fullShare X.x13 ∗ owns (c : Thread nD τ) arg14 fullShare X.x14 ∗ owns (c : Thread nD τ) arg15 fullShare X.x15 ∗ owns (c : Thread nD τ) arg16 fullShare X.x16 ∗ owns (c : Thread nD τ) arg17 fullShare X.x17 ∗ owns (c : Thread nD τ) arg18 fullShare X.x18 ∗ owns (c : Thread nD τ) arg19 fullShare X.x19 ∗ owns (c : Thread nD τ) arg27 fullShare (qs X))
/-- The scratch arrays at the state `s`. -/
abbrev SCs (s : St F) : sProp (MT nD τ sig Unit (Elt F) ℕ (UU nD τ) ℕ) :=
  iprop(owns (c : Thread nD τ) arg24 fullShare s.K ∗ owns (c : Thread nD τ) arg25 fullShare s.V ∗ owns (c : Thread nD τ) arg26 fullShare s.S1 ∗ owns (c : Thread nD τ) arg28 fullShare s.cap ∗ owns (c : Thread nD τ) arg29 fullShare s.flag ∗ owns (c : Thread nD τ) arg30 fullShare s.pacc ∗ owns (c : Thread nD τ) arg31 fullShare s.iacc ∗ owns (c : Thread nD τ) arg32 fullShare s.uacc)

/-- The loop's invariant: before trip `k` the scratch arrays and the carried count are at `iter X s k`. -/
def inv (X : Inp F) (s : St F) (k : ℕ) (acc : FVec F S128 .f32) : sProp (MT nD τ sig Unit (Elt F) ℕ (UU nD τ) ℕ) :=
  iprop(⌜acc = (iter X s k).acc⌝ ∗ ROs c arg3 arg4 arg5 arg9 arg10 arg13 arg14 arg15 arg16 arg17 arg18 arg19 arg27 X ∗ SCs c arg24 arg25 arg26 arg28 arg29 arg30 arg31 arg32 (iter X s k))

set_option maxHeartbeats 4000000 in
/-- ONE TRIP: from the state `s` to `step X k s`. -/
theorem trip_sound (X : Inp F) (s : St F) (k : Fin k0_t1_loop.trips) (v61 v62 : FVec F S128x64 .f32) :
    iprop(ROs c arg3 arg4 arg5 arg9 arg10 arg13 arg14 arg15 arg16 arg17 arg18 arg19 arg27 X ∗ SCs c arg24 arg25 arg26 arg28 arg29 arg30 arg31 arg32 s)
      ⊢ wp Idealize.ShloMosaic.frame (wpE (defs₀ (F := F)) 𝒱₀ (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (k0_pay26 (F := F)) v61 v62 X.x19 lanes k s.acc)
          (fun acc => iprop(⌜acc = (step X k s).acc⌝ ∗ ROs c arg3 arg4 arg5 arg9 arg10 arg13 arg14 arg15 arg16 arg17 arg18 arg19 arg27 X ∗ SCs c arg24 arg25 arg26 arg28 arg29 arg30 arg31 arg32 (step X k s))) := by
  unfold k0_t1_body
  unfold ROs SCs owns
  iintro ⟨⟨⟨%f3, %hf3, H3⟩, ⟨%f4, %hf4, H4⟩, ⟨%f5, %hf5, H5⟩, ⟨%f9, %hf9, H9⟩, ⟨%f10, %hf10, H10⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f27, %hf27, H27⟩⟩, ⟨⟨%f24, %hf24, H24⟩, ⟨%f25, %hf25, H25⟩, ⟨%f26, %hf26, H26⟩, ⟨%f28, %hf28, H28⟩, ⟨%f29, %hf29, H29⟩, ⟨%f30, %hf30, H30⟩, ⟨%f31, %hf31, H31⟩, ⟨%f32, %hf32, H32⟩⟩⟩
  sl_exec_parts
  sl_step
  isplitr
  · ipureintro
    (try delta trip_sound.sl.H28_1); (try delta trip_sound.sl.H29_1); (try delta trip_sound.sl.H24_1); (try delta trip_sound.sl.H25_1); (try delta trip_sound.sl.r_16); (try delta trip_sound.sl.r_15); (try delta trip_sound.sl.r_14); (try delta trip_sound.sl.r_13); (try delta trip_sound.sl.r_12); (try delta trip_sound.sl.r_11); (try delta trip_sound.sl.r_10); (try delta trip_sound.sl.r_9); (try delta trip_sound.sl.r_8); (try delta trip_sound.sl.r_7); (try delta trip_sound.sl.r_6); (try delta trip_sound.sl.r_5); (try delta trip_sound.sl.r_4); (try delta trip_sound.sl.r_3); (try delta trip_sound.sl.r_2); (try delta trip_sound.sl.r_1); (try delta trip_sound.sl.r)
    try simp only [View.readAt_full, hf3, hf4, hf5, hf9, hf10, hf13, hf14, hf15, hf16, hf17, hf18, hf19, hf27, hf24, hf25, hf26, hf28, hf29, hf30, hf31, hf32]
    try simp only [readAt_win, full_S128x64x128, full_S128x128, full_S128, full_S4x128x64, full_S128x64, full_S3x128x64, full_S8x128, full_S128x1, full_S128x64x8, full_S32x128x8, full_S32x128, hf3, hf4, hf5, hf9, hf10, hf13, hf14, hf15, hf16, hf17, hf18, hf19, hf27, hf24, hf25, hf26, hf28, hf29, hf30, hf31, hf32]
    rfl
  isplitl [H3 H4 H5 H9 H10 H13 H14 H15 H16 H17 H18 H19 H27]
  · isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H9]
    · iexists f9; isplitr; · ipureintro; exact hf9
      iexact H9
    isplitl [H10]
    · iexists f10; isplitr; · ipureintro; exact hf10
      iexact H10
    isplitl [H13]
    · iexists f13; isplitr; · ipureintro; exact hf13
      iexact H13
    isplitl [H14]
    · iexists f14; isplitr; · ipureintro; exact hf14
      iexact H14
    isplitl [H15]
    · iexists f15; isplitr; · ipureintro; exact hf15
      iexact H15
    isplitl [H16]
    · iexists f16; isplitr; · ipureintro; exact hf16
      iexact H16
    isplitl [H17]
    · iexists f17; isplitr; · ipureintro; exact hf17
      iexact H17
    isplitl [H18]
    · iexists f18; isplitr; · ipureintro; exact hf18
      iexact H18
    isplitl [H19]
    · iexists f19; isplitr; · ipureintro; exact hf19
      iexact H19
    iexists f27; isplitr; · ipureintro; exact hf27
    iexact H27
  isplitl [H24]
  · iexists _; isplitr
    swap; · iexact H24
    ipureintro
    (try delta trip_sound.sl.H28_1); (try delta trip_sound.sl.H29_1); (try delta trip_sound.sl.H24_1); (try delta trip_sound.sl.H25_1); (try delta trip_sound.sl.r_16); (try delta trip_sound.sl.r_15); (try delta trip_sound.sl.r_14); (try delta trip_sound.sl.r_13); (try delta trip_sound.sl.r_12); (try delta trip_sound.sl.r_11); (try delta trip_sound.sl.r_10); (try delta trip_sound.sl.r_9); (try delta trip_sound.sl.r_8); (try delta trip_sound.sl.r_7); (try delta trip_sound.sl.r_6); (try delta trip_sound.sl.r_5); (try delta trip_sound.sl.r_4); (try delta trip_sound.sl.r_3); (try delta trip_sound.sl.r_2); (try delta trip_sound.sl.r_1); (try delta trip_sound.sl.r)
    refine (View.read_writes_full _ _ _ _ _).trans ?_
    try simp only [View.readAt_full, hf3, hf4, hf5, hf9, hf10, hf13, hf14, hf15, hf16, hf17, hf18, hf19, hf27, hf24, hf25, hf26, hf28, hf29, hf30, hf31, hf32]
    try simp only [readAt_win, full_S128x64x128, full_S128x128, full_S128, full_S4x128x64, full_S128x64, full_S3x128x64, full_S8x128, full_S128x1, full_S128x64x8, full_S32x128x8, full_S32x128, hf3, hf4, hf5, hf9, hf10, hf13, hf14, hf15, hf16, hf17, hf18, hf19, hf27, hf24, hf25, hf26, hf28, hf29, hf30, hf31, hf32]
    rfl
  isplitl [H25]
  · iexists _; isplitr
    swap; · iexact H25
    ipureintro
    (try delta trip_sound.sl.H28_1); (try delta trip_sound.sl.H29_1); (try delta trip_sound.sl.H24_1); (try delta trip_sound.sl.H25_1); (try delta trip_sound.sl.r_16); (try delta trip_sound.sl.r_15); (try delta trip_sound.sl.r_14); (try delta trip_sound.sl.r_13); (try delta trip_sound.sl.r_12); (try delta trip_sound.sl.r_11); (try delta trip_sound.sl.r_10); (try delta trip_sound.sl.r_9); (try delta trip_sound.sl.r_8); (try delta trip_sound.sl.r_7); (try delta trip_sound.sl.r_6); (try delta trip_sound.sl.r_5); (try delta trip_sound.sl.r_4); (try delta trip_sound.sl.r_3); (try delta trip_sound.sl.r_2); (try delta trip_sound.sl.r_1); (try delta trip_sound.sl.r)
    refine (View.read_writes_full _ _ _ _ _).trans ?_
    try simp only [View.readAt_full, hf3, hf4, hf5, hf9, hf10, hf13, hf14, hf15, hf16, hf17, hf18, hf19, hf27, hf24, hf25, hf26, hf28, hf29, hf30, hf31, hf32]
    try simp only [readAt_win, full_S128x64x128, full_S128x128, full_S128, full_S4x128x64, full_S128x64, full_S3x128x64, full_S8x128, full_S128x1, full_S128x64x8, full_S32x128x8, full_S32x128, hf3, hf4, hf5, hf9, hf10, hf13, hf14, hf15, hf16, hf17, hf18, hf19, hf27, hf24, hf25, hf26, hf28, hf29, hf30, hf31, hf32]
    rfl
  isplitl [H26]
  · iexists _; isplitr
    swap; · iexact H26
    ipureintro
    (try delta trip_sound.sl.H28_1); (try delta trip_sound.sl.H29_1); (try delta trip_sound.sl.H24_1); (try delta trip_sound.sl.H25_1); (try delta trip_sound.sl.r_16); (try delta trip_sound.sl.r_15); (try delta trip_sound.sl.r_14); (try delta trip_sound.sl.r_13); (try delta trip_sound.sl.r_12); (try delta trip_sound.sl.r_11); (try delta trip_sound.sl.r_10); (try delta trip_sound.sl.r_9); (try delta trip_sound.sl.r_8); (try delta trip_sound.sl.r_7); (try delta trip_sound.sl.r_6); (try delta trip_sound.sl.r_5); (try delta trip_sound.sl.r_4); (try delta trip_sound.sl.r_3); (try delta trip_sound.sl.r_2); (try delta trip_sound.sl.r_1); (try delta trip_sound.sl.r)
    refine (View.read_writes_full _ _ _ _ _).trans ?_
    try simp only [View.readAt_full, hf3, hf4, hf5, hf9, hf10, hf13, hf14, hf15, hf16, hf17, hf18, hf19, hf27, hf24, hf25, hf26, hf28, hf29, hf30, hf31, hf32]
    try simp only [readAt_win, full_S128x64x128, full_S128x128, full_S128, full_S4x128x64, full_S128x64, full_S3x128x64, full_S8x128, full_S128x1, full_S128x64x8, full_S32x128x8, full_S32x128, hf3, hf4, hf5, hf9, hf10, hf13, hf14, hf15, hf16, hf17, hf18, hf19, hf27, hf24, hf25, hf26, hf28, hf29, hf30, hf31, hf32]
    rfl
  isplitl [H28]
  · iexists _; isplitr
    swap; · iexact H28
    ipureintro
    (try delta trip_sound.sl.H28_1); (try delta trip_sound.sl.H29_1); (try delta trip_sound.sl.H24_1); (try delta trip_sound.sl.H25_1); (try delta trip_sound.sl.r_16); (try delta trip_sound.sl.r_15); (try delta trip_sound.sl.r_14); (try delta trip_sound.sl.r_13); (try delta trip_sound.sl.r_12); (try delta trip_sound.sl.r_11); (try delta trip_sound.sl.r_10); (try delta trip_sound.sl.r_9); (try delta trip_sound.sl.r_8); (try delta trip_sound.sl.r_7); (try delta trip_sound.sl.r_6); (try delta trip_sound.sl.r_5); (try delta trip_sound.sl.r_4); (try delta trip_sound.sl.r_3); (try delta trip_sound.sl.r_2); (try delta trip_sound.sl.r_1); (try delta trip_sound.sl.r)
    refine (View.read_writes_full _ _ _ _ _).trans ?_
    try simp only [View.readAt_full, hf3, hf4, hf5, hf9, hf10, hf13, hf14, hf15, hf16, hf17, hf18, hf19, hf27, hf24, hf25, hf26, hf28, hf29, hf30, hf31, hf32]
    try simp only [readAt_win, full_S128x64x128, full_S128x128, full_S128, full_S4x128x64, full_S128x64, full_S3x128x64, full_S8x128, full_S128x1, full_S128x64x8, full_S32x128x8, full_S32x128, hf3, hf4, hf5, hf9, hf10, hf13, hf14, hf15, hf16, hf17, hf18, hf19, hf27, hf24, hf25, hf26, hf28, hf29, hf30, hf31, hf32]
    rfl
  isplitl [H29]
  · iexists _; isplitr
    swap; · iexact H29
    ipureintro
    (try delta trip_sound.sl.H28_1); (try delta trip_sound.sl.H29_1); (try delta trip_sound.sl.H24_1); (try delta trip_sound.sl.H25_1); (try delta trip_sound.sl.r_16); (try delta trip_sound.sl.r_15); (try delta trip_sound.sl.r_14); (try delta trip_sound.sl.r_13); (try delta trip_sound.sl.r_12); (try delta trip_sound.sl.r_11); (try delta trip_sound.sl.r_10); (try delta trip_sound.sl.r_9); (try delta trip_sound.sl.r_8); (try delta trip_sound.sl.r_7); (try delta trip_sound.sl.r_6); (try delta trip_sound.sl.r_5); (try delta trip_sound.sl.r_4); (try delta trip_sound.sl.r_3); (try delta trip_sound.sl.r_2); (try delta trip_sound.sl.r_1); (try delta trip_sound.sl.r)
    refine (View.read_writes_full _ _ _ _ _).trans ?_
    try simp only [View.readAt_full, hf3, hf4, hf5, hf9, hf10, hf13, hf14, hf15, hf16, hf17, hf18, hf19, hf27, hf24, hf25, hf26, hf28, hf29, hf30, hf31, hf32]
    try simp only [readAt_win, full_S128x64x128, full_S128x128, full_S128, full_S4x128x64, full_S128x64, full_S3x128x64, full_S8x128, full_S128x1, full_S128x64x8, full_S32x128x8, full_S32x128, hf3, hf4, hf5, hf9, hf10, hf13, hf14, hf15, hf16, hf17, hf18, hf19, hf27, hf24, hf25, hf26, hf28, hf29, hf30, hf31, hf32]
    rfl
  isplitl [H30]
  · iexists _; isplitr
    swap; · iexact H30
    ipureintro
    rw [View.read_writes_cons_put _ _ _ _ _ rfl, View.writes_nil]
    (try delta trip_sound.sl.H28_1); (try delta trip_sound.sl.H29_1); (try delta trip_sound.sl.H24_1); (try delta trip_sound.sl.H25_1); (try delta trip_sound.sl.r_16); (try delta trip_sound.sl.r_15); (try delta trip_sound.sl.r_14); (try delta trip_sound.sl.r_13); (try delta trip_sound.sl.r_12); (try delta trip_sound.sl.r_11); (try delta trip_sound.sl.r_10); (try delta trip_sound.sl.r_9); (try delta trip_sound.sl.r_8); (try delta trip_sound.sl.r_7); (try delta trip_sound.sl.r_6); (try delta trip_sound.sl.r_5); (try delta trip_sound.sl.r_4); (try delta trip_sound.sl.r_3); (try delta trip_sound.sl.r_2); (try delta trip_sound.sl.r_1); (try delta trip_sound.sl.r)
    try simp only [View.readAt_full, hf3, hf4, hf5, hf9, hf10, hf13, hf14, hf15, hf16, hf17, hf18, hf19, hf27, hf24, hf25, hf26, hf28, hf29, hf30, hf31, hf32]
    try simp only [readAt_win, full_S128x64x128, full_S128x128, full_S128, full_S4x128x64, full_S128x64, full_S3x128x64, full_S8x128, full_S128x1, full_S128x64x8, full_S32x128x8, full_S32x128, hf3, hf4, hf5, hf9, hf10, hf13, hf14, hf15, hf16, hf17, hf18, hf19, hf27, hf24, hf25, hf26, hf28, hf29, hf30, hf31, hf32]
    rfl
  isplitl [H31]
  · iexists _; isplitr
    swap; · iexact H31
    ipureintro
    rw [View.read_writes_cons_put _ _ _ _ _ rfl, View.writes_nil]
    (try delta trip_sound.sl.H28_1); (try delta trip_sound.sl.H29_1); (try delta trip_sound.sl.H24_1); (try delta trip_sound.sl.H25_1); (try delta trip_sound.sl.r_16); (try delta trip_sound.sl.r_15); (try delta trip_sound.sl.r_14); (try delta trip_sound.sl.r_13); (try delta trip_sound.sl.r_12); (try delta trip_sound.sl.r_11); (try delta trip_sound.sl.r_10); (try delta trip_sound.sl.r_9); (try delta trip_sound.sl.r_8); (try delta trip_sound.sl.r_7); (try delta trip_sound.sl.r_6); (try delta trip_sound.sl.r_5); (try delta trip_sound.sl.r_4); (try delta trip_sound.sl.r_3); (try delta trip_sound.sl.r_2); (try delta trip_sound.sl.r_1); (try delta trip_sound.sl.r)
    try simp only [View.readAt_full, hf3, hf4, hf5, hf9, hf10, hf13, hf14, hf15, hf16, hf17, hf18, hf19, hf27, hf24, hf25, hf26, hf28, hf29, hf30, hf31, hf32]
    try simp only [readAt_win, full_S128x64x128, full_S128x128, full_S128, full_S4x128x64, full_S128x64, full_S3x128x64, full_S8x128, full_S128x1, full_S128x64x8, full_S32x128x8, full_S32x128, hf3, hf4, hf5, hf9, hf10, hf13, hf14, hf15, hf16, hf17, hf18, hf19, hf27, hf24, hf25, hf26, hf28, hf29, hf30, hf31, hf32]
    rfl
  iexists _; isplitr
  swap; · iexact H32
  ipureintro
  rw [View.read_writes_cons_put _ _ _ _ _ rfl, View.writes_nil]
  (try delta trip_sound.sl.H28_1); (try delta trip_sound.sl.H29_1); (try delta trip_sound.sl.H24_1); (try delta trip_sound.sl.H25_1); (try delta trip_sound.sl.r_16); (try delta trip_sound.sl.r_15); (try delta trip_sound.sl.r_14); (try delta trip_sound.sl.r_13); (try delta trip_sound.sl.r_12); (try delta trip_sound.sl.r_11); (try delta trip_sound.sl.r_10); (try delta trip_sound.sl.r_9); (try delta trip_sound.sl.r_8); (try delta trip_sound.sl.r_7); (try delta trip_sound.sl.r_6); (try delta trip_sound.sl.r_5); (try delta trip_sound.sl.r_4); (try delta trip_sound.sl.r_3); (try delta trip_sound.sl.r_2); (try delta trip_sound.sl.r_1); (try delta trip_sound.sl.r)
  try simp only [View.readAt_full, hf3, hf4, hf5, hf9, hf10, hf13, hf14, hf15, hf16, hf17, hf18, hf19, hf27, hf24, hf25, hf26, hf28, hf29, hf30, hf31, hf32]
  try simp only [readAt_win, full_S128x64x128, full_S128x128, full_S128, full_S4x128x64, full_S128x64, full_S3x128x64, full_S8x128, full_S128x1, full_S128x64x8, full_S32x128x8, full_S32x128, hf3, hf4, hf5, hf9, hf10, hf13, hf14, hf15, hf16, hf17, hf18, hf19, hf27, hf24, hf25, hf26, hf28, hf29, hf30, hf31, hf32]
  rfl

/-- A trip keeps the invariant. -/
theorem inv_step (X : Inp F) (s : St F) (k : Fin k0_t1_loop.trips) (acc : FVec F S128 .f32) (v0 : F .f32) (v61 v62 : FVec F S128x64 .f32)
    (v65 : Vec F S128x1 .f32) (v66 : IVec S128x64 32) (h0 : v0 = k0_pay26 (F := F)) (h65 : v65 = X.x19) (h66 : v66 = lanes) :
    inv c arg3 arg4 arg5 arg9 arg10 arg13 arg14 arg15 arg16 arg17 arg18 arg19 arg24 arg25 arg26 arg27 arg28 arg29 arg30 arg31 arg32 X s k.val acc
      ⊢ wp Idealize.ShloMosaic.frame (wpE (defs₀ (F := F)) 𝒱₀ (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v0 v61 v62 v65 v66 k acc)
          (inv c arg3 arg4 arg5 arg9 arg10 arg13 arg14 arg15 arg16 arg17 arg18 arg19 arg24 arg25 arg26 arg27 arg28 arg29 arg30 arg31 arg32 X s (k.val + 1)) := by
  subst h0 h65 h66
  unfold inv
  rw [iter_succ]
  iintro ⟨%hacc, HR, HS⟩
  subst hacc
  iapply (trip_sound c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 X (iter X s k.val) k v61 v62)
  isplitl [HR]; · iexact HR
  iexact HS

end Run

end Cert.Proof.KernelIdeal

end
-- ==== Proof.KernelIdealRun.lean ====
/-
  The body of `KernelIdeal` run on whole memrefs: the loop by the trip's triple, then the four results.
-/
module

public import proofs.«01_k».proof.Proof.KernelIdealTrip

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Run

variable (c : Dev nD) (i : grid0.Coords) (arg1 : Memref sig .tc .vmem S128x64x8 .f32) (harg1 : arg1.IsWhole) (arg2 : Memref sig .tc .vmem S32x128x8 .f32) (harg2 : arg2.IsWhole) (arg3 : Memref sig .tc .vmem S32x128x64 .f32) (harg3 : arg3.IsWhole) (arg4 : Memref sig .tc .vmem S32x128x4 .f32) (harg4 : arg4.IsWhole) (arg5 : Memref sig .tc .vmem S3x128x64 .f32) (harg5 : arg5.IsWhole) (arg6 : Memref sig .tc .vmem S4x128x64 .f32) (harg6 : arg6.IsWhole) (arg7 : Memref sig .tc .vmem S8x128 .f32) (harg7 : arg7.IsWhole) (arg8 : Memref sig .tc .vmem S128 .f32) (harg8 : arg8.IsWhole) (arg9 : Memref sig .tc .vmem S8x128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S128x128 .f32) (harg13 : arg13.IsWhole) (arg14 : Memref sig .tc .vmem S128 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x1 .f32) (harg19 : arg19.IsWhole) (arg20 : Memref sig .tc .vmem S128x32 .f32) (harg20 : arg20.IsWhole) (arg21 : Memref sig .tc .vmem S128x32 .i32) (harg21 : arg21.IsWhole) (arg22 : Memref sig .tc .vmem S128x32 .i32) (harg22 : arg22.IsWhole) (arg23 : Memref sig .tc .vmem S128x4 .f32) (harg23 : arg23.IsWhole) (arg24 : Memref sig .tc .vmem S128x64x128 .f32) (harg24 : arg24.IsWhole) (arg25 : Memref sig .tc .vmem S128x64x128 .f32) (harg25 : arg25.IsWhole) (arg26 : Memref sig .tc .vmem S128x64x128 .f32) (harg26 : arg26.IsWhole) (arg27 : Memref sig .tc .vmem S32x128x128 .f32) (harg27 : arg27.IsWhole) (arg28 : Memref sig .tc .vmem S4x128x64 .f32) (harg28 : arg28.IsWhole) (arg29 : Memref sig .tc .vmem S128x64 .f32) (harg29 : arg29.IsWhole) (arg30 : Memref sig .tc .vmem S32x128 .f32) (harg30 : arg30.IsWhole) (arg31 : Memref sig .tc .vmem S32x128 .i32) (harg31 : arg31.IsWhole) (arg32 : Memref sig .tc .vmem S32x128 .i32) (harg32 : arg32.IsWhole)

/-- The operand blocks, held. -/
abbrev INs (X : Inp F) : sProp (MT nD τ sig Unit (Elt F) ℕ (UU nD τ) ℕ) :=
  iprop(owns (c : Thread nD τ) arg1 fullShare X.x1 ∗ owns (c : Thread nD τ) arg2 fullShare X.x2 ∗ owns (c : Thread nD τ) arg3 fullShare X.x3 ∗ owns (c : Thread nD τ) arg4 fullShare X.x4 ∗ owns (c : Thread nD τ) arg5 fullShare X.x5 ∗ owns (c : Thread nD τ) arg6 fullShare X.x6 ∗ owns (c : Thread nD τ) arg7 fullShare X.x7 ∗ owns (c : Thread nD τ) arg8 fullShare X.x8 ∗ owns (c : Thread nD τ) arg9 fullShare X.x9 ∗ owns (c : Thread nD τ) arg10 fullShare X.x10 ∗ owns (c : Thread nD τ) arg11 fullShare X.x11 ∗ owns (c : Thread nD τ) arg12 fullShare X.x12 ∗ owns (c : Thread nD τ) arg13 fullShare X.x13 ∗ owns (c : Thread nD τ) arg14 fullShare X.x14 ∗ owns (c : Thread nD τ) arg15 fullShare X.x15 ∗ owns (c : Thread nD τ) arg16 fullShare X.x16 ∗ owns (c : Thread nD τ) arg17 fullShare X.x17 ∗ owns (c : Thread nD τ) arg18 fullShare X.x18 ∗ owns (c : Thread nD τ) arg19 fullShare X.x19)
/-- The result blocks and the scratch arrays, held at anything. -/
abbrev ANYs : sProp (MT nD τ sig Unit (Elt F) ℕ (UU nD τ) ℕ) :=
  iprop((∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d))
abbrev SANYs : sProp (MT nD τ sig Unit (Elt F) ℕ (UU nD τ) ℕ) :=
  iprop((∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d))
/-- The four results at what the state `s` after the last trip gives. -/
abbrev OUTs (X : Inp F) (s : St F) : sProp (MT nD τ sig Unit (Elt F) ℕ (UU nD τ) ℕ) :=
  iprop(owns (c : Thread nD τ) arg20 fullShare (outProbs s) ∗ owns (c : Thread nD τ) arg21 fullShare (outIdx s) ∗ owns (c : Thread nD τ) arg22 fullShare (outUa s) ∗ owns (c : Thread nD τ) arg23 fullShare (outProps X s))

set_option maxHeartbeats 8000000 in
/-- THE BODY: the four results end at what the {loop's} trips leave, whatever the scratch held. -/
theorem body_sound (X : Inp F) :
    iprop(INs c arg1 arg2 arg3 arg4 arg5 arg6 arg7 arg8 arg9 arg10 arg11 arg12 arg13 arg14 arg15 arg16 arg17 arg18 arg19 X ∗ ANYs c arg20 arg21 arg22 arg23 ∗ SANYs c arg24 arg25 arg26 arg27 arg28 arg29 arg30 arg31 arg32)
      ⊢ wp Idealize.ShloMosaic.frame (wpE (defs₀ (F := F)) 𝒱₀ (c : Thread nD τ) none) Set.univ
          (cc0__decode_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32)
          (fun _ => iprop(∃ p q u, INs c arg1 arg2 arg3 arg4 arg5 arg6 arg7 arg8 arg9 arg10 arg11 arg12 arg13 arg14 arg15 arg16 arg17 arg18 arg19 X ∗ OUTs c arg20 arg21 arg22 arg23 X (iter X (start X p q u) k0_t1_loop.trips) ∗ SANYs c arg24 arg25 arg26 arg27 arg28 arg29 arg30 arg31 arg32)) := by
  simp only [cc0__decode_body_eq_skeleton]; unfold cc0__decode_body_skel
  unfold INs ANYs SANYs owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, ⟨⟨%d20, %f20, %hf20, H20⟩, ⟨%d21, %f21, %hf21, H21⟩, ⟨%d22, %f22, %hf22, H22⟩, ⟨%d23, %f23, %hf23, H23⟩⟩, ⟨⟨%d24, %f24, %hf24, H24⟩, ⟨%d25, %f25, %hf25, H25⟩, ⟨%d26, %f26, %hf26, H26⟩, ⟨%d27, %f27, %hf27, H27⟩, ⟨%d28, %f28, %hf28, H28⟩, ⟨%d29, %f29, %hf29, H29⟩, ⟨%d30, %f30, %hf30, H30⟩, ⟨%d31, %f31, %hf31, H31⟩, ⟨%d32, %f32, %hf32, H32⟩⟩⟩
  sl_exec_parts
  sl_for (inv c arg3 arg4 arg5 arg9 arg10 arg13 arg14 arg15 arg16 arg17 arg18 arg19 arg24 arg25 arg26 arg27 arg28 arg29 arg30 arg31 arg32 X (start X d30 d31 d32)) $$ [H3 H4 H5 H9 H10 H13 H14 H15 H16 H17 H18 H19 H27 H24 H25 H26 H28 H29 H30 H31 H32]
  case region =>
    intro k acc
    refine inv_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 X (start X d30 d31 d32) k acc _ _ _ _ _ ?_ ?_ ?_
    · (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      rfl
    · (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      exact (View.readAt_full _ _ _).trans hf19
    · (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      rfl
  · unfold inv ROs SCs owns
    isplitr
    · ipureintro; rfl
    isplitl [H3 H4 H5 H9 H10 H13 H14 H15 H16 H17 H18 H19 H27]
    · isplitl [H3]
      · iexists f3; isplitr; · ipureintro; exact hf3
        iexact H3
      isplitl [H4]
      · iexists f4; isplitr; · ipureintro; exact hf4
        iexact H4
      isplitl [H5]
      · iexists f5; isplitr; · ipureintro; exact hf5
        iexact H5
      isplitl [H9]
      · iexists f9; isplitr; · ipureintro; exact hf9
        iexact H9
      isplitl [H10]
      · iexists f10; isplitr; · ipureintro; exact hf10
        iexact H10
      isplitl [H13]
      · iexists f13; isplitr; · ipureintro; exact hf13
        iexact H13
      isplitl [H14]
      · iexists f14; isplitr; · ipureintro; exact hf14
        iexact H14
      isplitl [H15]
      · iexists f15; isplitr; · ipureintro; exact hf15
        iexact H15
      isplitl [H16]
      · iexists f16; isplitr; · ipureintro; exact hf16
        iexact H16
      isplitl [H17]
      · iexists f17; isplitr; · ipureintro; exact hf17
        iexact H17
      isplitl [H18]
      · iexists f18; isplitr; · ipureintro; exact hf18
        iexact H18
      isplitl [H19]
      · iexists f19; isplitr; · ipureintro; exact hf19
        iexact H19
      iexists _; isplitr
      swap; · iexact H27
      ipureintro
      (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      refine (View.read_writes_full _ _ _ _ _).trans ?_
      try simp only [View.readAt_full, hf1, hf2, hf3, hf4, hf5, hf6, hf7, hf8, hf9, hf10, hf11, hf12, hf13, hf14, hf15, hf16, hf17, hf18, hf19]
      try simp only [readAt_win, full_S128x64x128, full_S128x128, full_S128, full_S4x128x64, full_S128x64, full_S3x128x64, full_S8x128, full_S128x1, full_S128x64x8, full_S32x128x8, full_S32x128, hf1, hf2, hf3, hf4, hf5, hf6, hf7, hf8, hf9, hf10, hf11, hf12, hf13, hf14, hf15, hf16, hf17, hf18, hf19]
      rfl
    isplitl [H24]
    · iexists _; isplitr
      swap; · iexact H24
      ipureintro
      (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      refine (View.read_writes_full _ _ _ _ _).trans ?_
      try simp only [View.readAt_full, hf1, hf2, hf3, hf4, hf5, hf6, hf7, hf8, hf9, hf10, hf11, hf12, hf13, hf14, hf15, hf16, hf17, hf18, hf19]
      try simp only [readAt_win, full_S128x64x128, full_S128x128, full_S128, full_S4x128x64, full_S128x64, full_S3x128x64, full_S8x128, full_S128x1, full_S128x64x8, full_S32x128x8, full_S32x128, hf1, hf2, hf3, hf4, hf5, hf6, hf7, hf8, hf9, hf10, hf11, hf12, hf13, hf14, hf15, hf16, hf17, hf18, hf19]
      rfl
    isplitl [H25]
    · iexists _; isplitr
      swap; · iexact H25
      ipureintro
      (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      refine (View.read_writes_full _ _ _ _ _).trans ?_
      try simp only [View.readAt_full, hf1, hf2, hf3, hf4, hf5, hf6, hf7, hf8, hf9, hf10, hf11, hf12, hf13, hf14, hf15, hf16, hf17, hf18, hf19]
      try simp only [readAt_win, full_S128x64x128, full_S128x128, full_S128, full_S4x128x64, full_S128x64, full_S3x128x64, full_S8x128, full_S128x1, full_S128x64x8, full_S32x128x8, full_S32x128, hf1, hf2, hf3, hf4, hf5, hf6, hf7, hf8, hf9, hf10, hf11, hf12, hf13, hf14, hf15, hf16, hf17, hf18, hf19]
      rfl
    isplitl [H26]
    · iexists _; isplitr
      swap; · iexact H26
      ipureintro
      (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      refine (View.read_writes_full _ _ _ _ _).trans ?_
      try simp only [View.readAt_full, hf1, hf2, hf3, hf4, hf5, hf6, hf7, hf8, hf9, hf10, hf11, hf12, hf13, hf14, hf15, hf16, hf17, hf18, hf19]
      try simp only [readAt_win, full_S128x64x128, full_S128x128, full_S128, full_S4x128x64, full_S128x64, full_S3x128x64, full_S8x128, full_S128x1, full_S128x64x8, full_S32x128x8, full_S32x128, hf1, hf2, hf3, hf4, hf5, hf6, hf7, hf8, hf9, hf10, hf11, hf12, hf13, hf14, hf15, hf16, hf17, hf18, hf19]
      rfl
    isplitl [H28]
    · iexists _; isplitr
      swap; · iexact H28
      ipureintro
      (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      refine (View.read_writes_full _ _ _ _ _).trans ?_
      try simp only [View.readAt_full, hf1, hf2, hf3, hf4, hf5, hf6, hf7, hf8, hf9, hf10, hf11, hf12, hf13, hf14, hf15, hf16, hf17, hf18, hf19]
      try simp only [readAt_win, full_S128x64x128, full_S128x128, full_S128, full_S4x128x64, full_S128x64, full_S3x128x64, full_S8x128, full_S128x1, full_S128x64x8, full_S32x128x8, full_S32x128, hf1, hf2, hf3, hf4, hf5, hf6, hf7, hf8, hf9, hf10, hf11, hf12, hf13, hf14, hf15, hf16, hf17, hf18, hf19]
      rfl
    isplitl [H29]
    · iexists _; isplitr
      swap; · iexact H29
      ipureintro
      (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      refine (View.read_writes_full _ _ _ _ _).trans ?_
      try simp only [View.readAt_full, hf1, hf2, hf3, hf4, hf5, hf6, hf7, hf8, hf9, hf10, hf11, hf12, hf13, hf14, hf15, hf16, hf17, hf18, hf19]
      try simp only [readAt_win, full_S128x64x128, full_S128x128, full_S128, full_S4x128x64, full_S128x64, full_S3x128x64, full_S8x128, full_S128x1, full_S128x64x8, full_S32x128x8, full_S32x128, hf1, hf2, hf3, hf4, hf5, hf6, hf7, hf8, hf9, hf10, hf11, hf12, hf13, hf14, hf15, hf16, hf17, hf18, hf19]
      rfl
    isplitl [H30]
    · iexists _; isplitr
      swap; · iexact H30
      ipureintro
      exact hf30
    isplitl [H31]
    · iexists _; isplitr
      swap; · iexact H31
      ipureintro
      exact hf31
    iexists _; isplitr
    swap; · iexact H32
    ipureintro
    exact hf32
  unfold inv ROs SCs owns
  iintro %acc ⟨%hacc, ⟨⟨%g3, %hg3, H3⟩, ⟨%g4, %hg4, H4⟩, ⟨%g5, %hg5, H5⟩, ⟨%g9, %hg9, H9⟩, ⟨%g10, %hg10, H10⟩, ⟨%g13, %hg13, H13⟩, ⟨%g14, %hg14, H14⟩, ⟨%g15, %hg15, H15⟩, ⟨%g16, %hg16, H16⟩, ⟨%g17, %hg17, H17⟩, ⟨%g18, %hg18, H18⟩, ⟨%g19, %hg19, H19⟩, ⟨%g27, %hg27, H27⟩⟩, ⟨⟨%g24, %hg24, H24⟩, ⟨%g25, %hg25, H25⟩, ⟨%g26, %hg26, H26⟩, ⟨%g28, %hg28, H28⟩, ⟨%g29, %hg29, H29⟩, ⟨%g30, %hg30, H30⟩, ⟨%g31, %hg31, H31⟩, ⟨%g32, %hg32, H32⟩⟩⟩
  subst hacc
  sl_exec_parts
  sl_step
  iexists d30; iexists d31; iexists d32
  isplitl [H1 H2 H3 H4 H5 H6 H7 H8 H9 H10 H11 H12 H13 H14 H15 H16 H17 H18 H19]
  · isplitl [H1]
    · iexists f1; isplitr; · ipureintro; exact hf1
      iexact H1
    isplitl [H2]
    · iexists f2; isplitr; · ipureintro; exact hf2
      iexact H2
    isplitl [H3]
    · iexists g3; isplitr; · ipureintro; exact hg3
      iexact H3
    isplitl [H4]
    · iexists g4; isplitr; · ipureintro; exact hg4
      iexact H4
    isplitl [H5]
    · iexists g5; isplitr; · ipureintro; exact hg5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists g9; isplitr; · ipureintro; exact hg9
      iexact H9
    isplitl [H10]
    · iexists g10; isplitr; · ipureintro; exact hg10
      iexact H10
    isplitl [H11]
    · iexists f11; isplitr; · ipureintro; exact hf11
      iexact H11
    isplitl [H12]
    · iexists f12; isplitr; · ipureintro; exact hf12
      iexact H12
    isplitl [H13]
    · iexists g13; isplitr; · ipureintro; exact hg13
      iexact H13
    isplitl [H14]
    · iexists g14; isplitr; · ipureintro; exact hg14
      iexact H14
    isplitl [H15]
    · iexists g15; isplitr; · ipureintro; exact hg15
      iexact H15
    isplitl [H16]
    · iexists g16; isplitr; · ipureintro; exact hg16
      iexact H16
    isplitl [H17]
    · iexists g17; isplitr; · ipureintro; exact hg17
      iexact H17
    isplitl [H18]
    · iexists g18; isplitr; · ipureintro; exact hg18
      iexact H18
    iexists g19; isplitr; · ipureintro; exact hg19
    iexact H19
  unfold OUTs owns
  isplitl [H20 H21 H22 H23]
  · isplitl [H20]
    · iexists _; isplitr
      swap; · iexact H20
      ipureintro
      (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      refine (View.read_writes_full _ _ _ _ _).trans ?_
      try simp only [View.readAt_full, hg3, hg4, hg5, hg9, hg10, hg13, hg14, hg15, hg16, hg17, hg18, hg19, hg27, hg24, hg25, hg26, hg28, hg29, hg30, hg31, hg32, hf6]
      try simp only [readAt_win, full_S128x64x128, full_S128x128, full_S128, full_S4x128x64, full_S128x64, full_S3x128x64, full_S8x128, full_S128x1, full_S128x64x8, full_S32x128x8, full_S32x128, hg3, hg4, hg5, hg9, hg10, hg13, hg14, hg15, hg16, hg17, hg18, hg19, hg27, hg24, hg25, hg26, hg28, hg29, hg30, hg31, hg32, hf6]
      rfl
    isplitl [H21]
    · iexists _; isplitr
      swap; · iexact H21
      ipureintro
      (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      refine (View.read_writes_full _ _ _ _ _).trans ?_
      try simp only [View.readAt_full, hg3, hg4, hg5, hg9, hg10, hg13, hg14, hg15, hg16, hg17, hg18, hg19, hg27, hg24, hg25, hg26, hg28, hg29, hg30, hg31, hg32, hf6]
      try simp only [readAt_win, full_S128x64x128, full_S128x128, full_S128, full_S4x128x64, full_S128x64, full_S3x128x64, full_S8x128, full_S128x1, full_S128x64x8, full_S32x128x8, full_S32x128, hg3, hg4, hg5, hg9, hg10, hg13, hg14, hg15, hg16, hg17, hg18, hg19, hg27, hg24, hg25, hg26, hg28, hg29, hg30, hg31, hg32, hf6]
      rfl
    isplitl [H22]
    · iexists _; isplitr
      swap; · iexact H22
      ipureintro
      (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
      refine (View.read_writes_full _ _ _ _ _).trans ?_
      try simp only [View.readAt_full, hg3, hg4, hg5, hg9, hg10, hg13, hg14, hg15, hg16, hg17, hg18, hg19, hg27, hg24, hg25, hg26, hg28, hg29, hg30, hg31, hg32, hf6]
      try simp only [readAt_win, full_S128x64x128, full_S128x128, full_S128, full_S4x128x64, full_S128x64, full_S3x128x64, full_S8x128, full_S128x1, full_S128x64x8, full_S32x128x8, full_S32x128, hg3, hg4, hg5, hg9, hg10, hg13, hg14, hg15, hg16, hg17, hg18, hg19, hg27, hg24, hg25, hg26, hg28, hg29, hg30, hg31, hg32, hf6]
      rfl
    iexists _; isplitr
    swap; · iexact H23
    ipureintro
    (try delta body_sound.sl.H20_2); (try delta body_sound.sl.H20_1); (try delta body_sound.sl.H21_2); (try delta body_sound.sl.H21_1); (try delta body_sound.sl.H22_2); (try delta body_sound.sl.H22_1); (try delta body_sound.sl.H23_2); (try delta body_sound.sl.H23_1); (try delta body_sound.sl.H24_2); (try delta body_sound.sl.H24_1); (try delta body_sound.sl.H25_2); (try delta body_sound.sl.H25_1); (try delta body_sound.sl.H26_2); (try delta body_sound.sl.H26_1); (try delta body_sound.sl.H27_2); (try delta body_sound.sl.H27_1); (try delta body_sound.sl.H28_2); (try delta body_sound.sl.H28_1); (try delta body_sound.sl.H29_2); (try delta body_sound.sl.H29_1); (try delta body_sound.sl.H30_2); (try delta body_sound.sl.H30_1); (try delta body_sound.sl.H31_2); (try delta body_sound.sl.H31_1); (try delta body_sound.sl.H32_2); (try delta body_sound.sl.H32_1); (try delta body_sound.sl.r_16); (try delta body_sound.sl.r_15); (try delta body_sound.sl.r_14); (try delta body_sound.sl.r_13); (try delta body_sound.sl.r_12); (try delta body_sound.sl.r_11); (try delta body_sound.sl.r_10); (try delta body_sound.sl.r_9); (try delta body_sound.sl.r_8); (try delta body_sound.sl.r_7); (try delta body_sound.sl.r_6); (try delta body_sound.sl.r_5); (try delta body_sound.sl.r_4); (try delta body_sound.sl.r_3); (try delta body_sound.sl.r_2); (try delta body_sound.sl.r_1); (try delta body_sound.sl.r)
    refine (View.read_writes_full _ _ _ _ _).trans ?_
    try simp only [View.readAt_full, hg3, hg4, hg5, hg9, hg10, hg13, hg14, hg15, hg16, hg17, hg18, hg19, hg27, hg24, hg25, hg26, hg28, hg29, hg30, hg31, hg32, hf6]
    try simp only [readAt_win, full_S128x64x128, full_S128x128, full_S128, full_S4x128x64, full_S128x64, full_S3x128x64, full_S8x128, full_S128x1, full_S128x64x8, full_S32x128x8, full_S32x128, hg3, hg4, hg5, hg9, hg10, hg13, hg14, hg15, hg16, hg17, hg18, hg19, hg27, hg24, hg25, hg26, hg28, hg29, hg30, hg31, hg32, hf6]
    rfl
  isplitl [H24]
  · iexists _; iexists g24; isplitr
    · ipureintro; rfl
    iexact H24
  isplitl [H25]
  · iexists _; iexists g25; isplitr
    · ipureintro; rfl
    iexact H25
  isplitl [H26]
  · iexists _; iexists g26; isplitr
    · ipureintro; rfl
    iexact H26
  isplitl [H27]
  · iexists _; iexists g27; isplitr
    · ipureintro; rfl
    iexact H27
  isplitl [H28]
  · iexists _; iexists g28; isplitr
    · ipureintro; rfl
    iexact H28
  isplitl [H29]
  · iexists _; iexists g29; isplitr
    · ipureintro; rfl
    iexact H29
  isplitl [H30]
  · iexists _; iexists g30; isplitr
    · ipureintro; rfl
    iexact H30
  isplitl [H31]
  · iexists _; iexists g31; isplitr
    · ipureintro; rfl
    iexact H31
  iexists _; iexists g32; isplitr
  · ipureintro; rfl
  iexact H32

end Run

end Cert.Proof.KernelIdeal

end
-- ==== Proof.KernelIdealRows.lean ====
/-
  What the three result arrays of `KernelIdeal` hold after the last trip: row `t` is what trip `t` stored, so nothing of what
  the scratch held before is left.
-/
module

public import proofs.«01_k».proof.Proof.KernelIdealTrip
public import Idealize.ShloMosaic.Lib.ValueIdxCore

@[expose] public section

set_option maxRecDepth 16384

noncomputable section

namespace Cert.Proof.KernelIdeal

open Cert.KernelIdeal Cert.KernelIdeal.Gen
open Idealize.ShloMosaic Idealize.ShloMosaic.ValueIdx

variable {F : FTy → Type} [FloatOps F]

theorem trips_eq : k0_t1_loop.trips = 32 := by decide +kernel

theorem off4_eq (t : Fin k0_t1_loop.trips) : k0_off4 t = ![t.val, 0] :=
  (by decide +kernel : ∀ t : Fin k0_t1_loop.trips, k0_off4 t = ![t.val, 0]) t

/-- The states agree in all but the three result arrays. -/
structure Core (s s' : St F) : Prop where
  K : s.K = s'.K
  V : s.V = s'.V
  S1 : s.S1 = s'.S1
  cap : s.cap = s'.cap
  flag : s.flag = s'.flag
  acc : s.acc = s'.acc

theorem Core.step (X : Inp F) (t : Fin k0_t1_loop.trips) {s s' : St F} (h : Core s s') : Core (step X t s) (step X t s') := by
  rcases s with ⟨K, V, S1, cap, flag, p, q, u, acc⟩
  rcases s' with ⟨K', V', S1', cap', flag', p', q', u', acc'⟩
  obtain ⟨h1, h2, h3, h4, h5, h6⟩ := h
  dsimp only at h1 h2 h3 h4 h5 h6
  subst h1 h2 h3 h4 h5 h6
  exact ⟨rfl, rfl, rfl, rfl, rfl, rfl⟩

theorem Core.iter (X : Inp F) {s s' : St F} (h : Core s s') (k : ℕ) : Core (iter X s k) (iter X s' k) := by
  induction k with
  | zero => exact h
  | succ k ih =>
    unfold Cert.Proof.KernelIdeal.iter
    split
    · exact Core.step X _ ih
    · exact ih

/-- A state with other result arrays. -/
theorem prob_core (X : Inp F) (t : Fin k0_t1_loop.trips) {s s' : St F} (h : Core s s') : prob X t s = prob X t s' := by
  unfold prob ctx; rw [h.K, h.V, h.S1]
theorem idx_core (X : Inp F) (t : Fin k0_t1_loop.trips) {s s' : St F} (h : Core s s') : idx X t s = idx X t s' := by
  unfold idx ctx; rw [h.K, h.V, h.S1]
theorem can_core (X : Inp F) (t : Fin k0_t1_loop.trips) {s s' : St F} (h : Core s s') : can X t s = can X t s' := by
  unfold can ctx; rw [h.K, h.V, h.S1, h.cap]

/-- A row put at trip `t`'s offset, read at an index. -/
theorem put_row {α : Type} (x : S32x128.Idx → α) (t : Fin k0_t1_loop.trips) (w : S1x128.Idx → α) (y : S32x128.Idx) :
    VecWindow.put x (k0_off4 t) S1x128.size w y = if (y 0).val = t.val then w (ix2 (0 : Fin 1) (y 1)) else x y := by
  rw [off4_eq]
  unfold VecWindow.put
  by_cases h : (y 0).val = t.val
  · rw [if_pos h, dif_pos]
    · congr 1
      funext a
      match a with
      | ⟨0, _⟩ => exact Fin.ext (by show (y 0).val - t.val = 0; omega)
      | ⟨1, _⟩ => exact Fin.ext (by show (y 1).val - 0 = (y 1).val; omega)
    · intro a
      match a with
      | ⟨0, _⟩ => exact ⟨by show t.val ≤ (y 0).val; omega, by show (y 0).val < t.val + 1; omega⟩
      | ⟨1, _⟩ => exact ⟨Nat.zero_le _, by have := (y 1).isLt; show (y 1).val < 0 + 128; have e : S32x128.size 1 = 128 := rfl; omega⟩
  · rw [if_neg h, dif_neg]
    intro hall
    have := hall 0
    have h1 : t.val ≤ (y 0).val := this.1
    have h2 : (y 0).val < t.val + 1 := this.2
    omega

/-- Row `t`, any trip after trip `t`, is what trip `t` stored. -/
theorem rows (X : Inp F) (s : St F) (y : S32x128.Idx) (t : Fin k0_t1_loop.trips) (hy : (y 0).val = t.val) (k : ℕ) (hk : t.val < k) :
    (iter X s k).pacc y = k0_pay39 (prob X t (iter X s t.val)) (ix2 (0 : Fin 1) (y 1))
    ∧ (iter X s k).iacc y = k0_pay40 (idx X t (iter X s t.val)) (ix2 (0 : Fin 1) (y 1))
    ∧ (iter X s k).uacc y = k0_pay41 (k0_pay19 (idx X t (iter X s t.val)) (can X t (iter X s t.val))) (ix2 (0 : Fin 1) (y 1)) := by
  induction k with
  | zero => omega
  | succ k ih =>
    by_cases hlt : k < k0_t1_loop.trips
    · have e : iter X s (k + 1) = step X ⟨k, hlt⟩ (iter X s k) := iter_succ X s ⟨k, hlt⟩
      rw [e]
      by_cases hkt : t.val = k
      · obtain rfl : t = ⟨k, hlt⟩ := Fin.ext hkt
        refine ⟨?_, ?_, ?_⟩
        · exact (put_row _ _ _ _).trans (if_pos hy)
        · exact (put_row _ _ _ _).trans (if_pos hy)
        · exact (put_row _ _ _ _).trans (if_pos hy)
      · have hn : ¬ (y 0).val = (⟨k, hlt⟩ : Fin k0_t1_loop.trips).val := by show ¬ (y 0).val = k; omega
        obtain ⟨i1, i2, i3⟩ := ih (by omega)
        refine ⟨?_, ?_, ?_⟩
        · exact ((put_row _ _ _ _).trans (if_neg hn)).trans i1
        · exact ((put_row _ _ _ _).trans (if_neg hn)).trans i2
        · exact ((put_row _ _ _ _).trans (if_neg hn)).trans i3
    · have := t.isLt
      have e : iter X s (k + 1) = iter X s k := by rw [iter, dif_neg hlt]
      rw [e]; exact ih (by omega)

/-- The state after the last trip, of a start with given result arrays. -/
def final (X : Inp F) (p : Vec F S32x128 .f32) (q u : Vec F S32x128 .i32) : St F := iter X (start X p q u) k0_t1_loop.trips

/-- It is the same whatever the result arrays held. -/
theorem final_eq (X : Inp F) (p p' : Vec F S32x128 .f32) (q u q' u' : Vec F S32x128 .i32) : final X p q u = final X p' q' u' := by
  have hc : Core (start X p q u) (start X p' q' u') := ⟨rfl, rfl, rfl, rfl, rfl, rfl⟩
  have hf := Core.iter X hc k0_t1_loop.trips
  have hr : ∀ y : S32x128.Idx, (final X p q u).pacc y = (final X p' q' u').pacc y ∧ (final X p q u).iacc y = (final X p' q' u').iacc y
      ∧ (final X p q u).uacc y = (final X p' q' u').uacc y := by
    intro y
    have hlt : (y 0).val < k0_t1_loop.trips := by rw [trips_eq]; exact (y 0).isLt
    have a := rows X (start X p q u) y ⟨(y 0).val, hlt⟩ rfl k0_t1_loop.trips hlt
    have b := rows X (start X p' q' u') y ⟨(y 0).val, hlt⟩ rfl k0_t1_loop.trips hlt
    have hk := Core.iter X hc (y 0).val
    refine ⟨?_, ?_, ?_⟩
    · exact a.1.trans ((congrArg (fun z => k0_pay39 z (ix2 (0 : Fin 1) (y 1))) (prob_core X _ hk)).trans b.1.symm)
    · exact a.2.1.trans ((congrArg (fun z => k0_pay40 z (ix2 (0 : Fin 1) (y 1))) (idx_core X _ hk)).trans b.2.1.symm)
    · exact a.2.2.trans ((congrArg₂ (fun z z' => k0_pay41 (k0_pay19 z z') (ix2 (0 : Fin 1) (y 1))) (idx_core X _ hk) (can_core X _ hk)).trans b.2.2.symm)
  have h1 := funext fun y => (hr y).1
  have h2 := funext fun y => (hr y).2.1
  have h3 := funext fun y => (hr y).2.2
  unfold final at h1 h2 h3 ⊢
  generalize iter X (start X p q u) k0_t1_loop.trips = a at *
  generalize iter X (start X p' q' u') k0_t1_loop.trips = b at *
  cases a; cases b
  obtain ⟨e1, e2, e3, e4, e5, e6⟩ := hf
  dsimp only at e1 e2 e3 e4 e5 e6 h1 h2 h3
  subst e1 e2 e3 e4 e5 e6 h1 h2 h3
  rfl

end Cert.Proof.KernelIdeal

end
-- ==== Proof.KernelIdealFrame.lean ====
/-
  `KernelIdeal` framed: the proof data of its one pipeline, the body's triple at the grid's point, the launch, and the claim that
  every execution ends with the arguments unchanged and every counter at zero. `run_main` also says what the four result
  arrays hold (`outs`), which the value claim reads.
-/
module

public import proofs.«01_k».proof.Proof.KernelIdealRun
public import proofs.«01_k».proof.Proof.KernelIdealRows
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operand blocks at the grid's point. -/
def blocks (c : Dev nD) (t : Fin cfg0.N) : Inp F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t
  x13 := iblk m c 12 t
  x14 := iblk m c 13 t
  x15 := iblk m c 14 t
  x16 := iblk m c 15 t
  x17 := iblk m c 16 t
  x18 := iblk m c 17 t
  x19 := iblk m c 18 t

/-- The state after the last trip at the grid's point (the result arrays' first contents do not matter: `final_eq`). -/
def endSt (c : Dev nD) (t : Fin cfg0.N) : St F := final (blocks m c t) (fun _ => k0_pay26 (F := F)) (fun _ => 0#32) (fun _ => 0#32)

/-- The proof data: the inputs' buffers at their blocks, the outputs' at what the last state gives. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => outProbs (endSt m c t)
    | ⟨20, _⟩ => outIdx (endSt m c t)
    | ⟨21, _⟩ => outUa (endSt m c t)
    | ⟨22, _⟩ => outProps (blocks m c t) (endSt m c t)
    | ⟨n + 23, h⟩ => (Nat.not_lt_of_le (Nat.le_add_left 23 n) h).elim
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = outProbs (endSt m c t) := by dsimp only [dats]
theorem after_20 (c : Dev nD) (t : Fin cfg0.N) : (dats m 0 c).after 20 t = outIdx (endSt m c t) := by dsimp only [dats]
theorem after_21 (c : Dev nD) (t : Fin cfg0.N) : (dats m 0 c).after 21 t = outUa (endSt m c t) := by dsimp only [dats]
theorem after_22 (c : Dev nD) (t : Fin cfg0.N) : (dats m 0 c).after 22 t = outProps (blocks m c t) (endSt m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d

/-- What the body is called with at the point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)) ∗ (∃ d, owns (c : Thread nD τ) (st0_21 t) fullShare ((dats m 0 c).before 21 t d)) ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ owns (c : Thread nD τ) (st0_20 t) fullShare ((dats m 0 c).after 20 t) ∗ owns (c : Thread nD τ) (st0_21 t) fullShare ((dats m 0 c).after 21 t) ∗ owns (c : Thread nD τ) (st0_22 t) fullShare ((dats m 0 c).after 22 t))

set_option maxHeartbeats 4000000 in
/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (wp_wand_r Idealize.ShloMosaic.frame (wpE (defs₀ (F := F)) 𝒱₀ (c : Thread nD τ) none) Set.univ)
  isplitl [H0 H1 H2 H3 H4 H5 H6 H7 H8 H9 H10 H11 H12 H13 H14 H15 H16 H17 H18 H19 H20 H21 H22 S0 S1 S2 S3 S4 S5 S6 S7 S8]
  · iapply (body_sound c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocks m c t))
    isplitl [H0 H1 H2 H3 H4 H5 H6 H7 H8 H9 H10 H11 H12 H13 H14 H15 H16 H17 H18]
    · unfold INs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19 H20 H21 H22]
    · unfold ANYs
      isplitl [H19]; · iexists _; iexact H19
      isplitl [H20]; · iexists _; iexact H20
      isplitl [H21]; · iexists _; iexact H21
      iexists _; iexact H22
    unfold SANYs
    isplitl [S0]; · iexists s0; iapply (Entails.of_eq (owns_whole (c : Thread nD τ) cc0_scratch0 fullShare s0).symm); iexact S0
    isplitl [S1]; · iexists s1; iapply (Entails.of_eq (owns_whole (c : Thread nD τ) cc0_scratch1 fullShare s1).symm); iexact S1
    isplitl [S2]; · iexists s2; iapply (Entails.of_eq (owns_whole (c : Thread nD τ) cc0_scratch2 fullShare s2).symm); iexact S2
    isplitl [S3]; · iexists s3; iapply (Entails.of_eq (owns_whole (c : Thread nD τ) cc0_scratch3 fullShare s3).symm); iexact S3
    isplitl [S4]; · iexists s4; iapply (Entails.of_eq (owns_whole (c : Thread nD τ) cc0_scratch4 fullShare s4).symm); iexact S4
    isplitl [S5]; · iexists s5; iapply (Entails.of_eq (owns_whole (c : Thread nD τ) cc0_scratch5 fullShare s5).symm); iexact S5
    isplitl [S6]; · iexists s6; iapply (Entails.of_eq (owns_whole (c : Thread nD τ) cc0_scratch6 fullShare s6).symm); iexact S6
    isplitl [S7]; · iexists s7; iapply (Entails.of_eq (owns_whole (c : Thread nD τ) cc0_scratch7 fullShare s7).symm); iexact S7
    iexists s8; iapply (Entails.of_eq (owns_whole (c : Thread nD τ) cc0_scratch8 fullShare s8).symm); iexact S8
  iintro %_ ⟨%p, %q, %u, HI, HO, HS⟩
  rw [show iter (blocks m c t) (start (blocks m c t) p q u) k0_t1_loop.trips = endSt m c t from final_eq _ _ _ _ _ _ _]
  unfold INs OUTs SANYs
  icases HI with ⟨H0, H1, H2, H3, H4, H5, H6, H7, H8, H9, H10, H11, H12, H13, H14, H15, H16, H17, H18⟩
  icases HO with ⟨H19, H20, H21, H22⟩
  icases HS with ⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩⟩
  isplitl [S0 S1 S2 S3 S4 S5 S6 S7 S8 HP]
  · isplitl [S0 S1 S2 S3 S4 S5 S6 S7 S8]
    · isplitl [S0]; · iexists g0; iapply (Entails.of_eq (owns_whole (c : Thread nD τ) cc0_scratch0 fullShare g0)); iexact S0
      isplitl [S1]; · iexists g1; iapply (Entails.of_eq (owns_whole (c : Thread nD τ) cc0_scratch1 fullShare g1)); iexact S1
      isplitl [S2]; · iexists g2; iapply (Entails.of_eq (owns_whole (c : Thread nD τ) cc0_scratch2 fullShare g2)); iexact S2
      isplitl [S3]; · iexists g3; iapply (Entails.of_eq (owns_whole (c : Thread nD τ) cc0_scratch3 fullShare g3)); iexact S3
      isplitl [S4]; · iexists g4; iapply (Entails.of_eq (owns_whole (c : Thread nD τ) cc0_scratch4 fullShare g4)); iexact S4
      isplitl [S5]; · iexists g5; iapply (Entails.of_eq (owns_whole (c : Thread nD τ) cc0_scratch5 fullShare g5)); iexact S5
      isplitl [S6]; · iexists g6; iapply (Entails.of_eq (owns_whole (c : Thread nD τ) cc0_scratch6 fullShare g6)); iexact S6
      isplitl [S7]; · iexists g7; iapply (Entails.of_eq (owns_whole (c : Thread nD τ) cc0_scratch7 fullShare g7)); iexact S7
      iexists g8; iapply (Entails.of_eq (owns_whole (c : Thread nD τ) cc0_scratch8 fullShare g8)); iexact S8
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the run's implicit arguments are found by unifying its conclusion with this one
set_option backward.isDefEq.respectTransparency.types false in
/-- THE RUN, with the counters. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every counter ends at zero. -/
theorem counters : θ_run defs (onTc (τ := τ) (main (F := F))) (s₀ m ρ) (fun r => r.2.sem = fun _ => 0) :=
  (θ_run defs _ _).mono (fun _ h => h.2) (run_main_quiescent m ρ)

end Cert.Proof.KernelIdeal

end
-- ==== Proof.Reference.lean ====
/-
  The reference's run over its own step.
-/
module

public import proofs.«01_k».proof.Proof.Gen.ReferenceIdeal.StepRun

@[expose] public section

end
-- ==== Proof.RefReads.lean ====
/-
  The reference's trip, read at an index.
-/
module

public import proofs.«01_k».proof.Proof.Gen.ReferenceIdeal.Step
public import Idealize.ShloMosaic.Lib.Pointwise

@[expose] public section

set_option maxRecDepth 16384

noncomputable section

namespace Cert.Proof.Ref

open Idealize.ShloMosaic Cert.ReferenceIdeal Cert.ReferenceIdeal.Gen Cert.ReferenceIdeal.Step

variable (j : ℕ) (s : State Ideal)

/-- A server's encoding: its eight features times the matrix, plus the bias. -/
theorem enc_apply (b : Fin 128) (v : Fin 64) (h : Fin 128) :
    b9 j s (ix3 b v h) = (∑ c : Fin 8, b5 j s (ix3 b v c) * s.main_v13_1 (ix2 c h)) + s.main_v13_2 (ix1 h) := by
  pointwise [b9, b8, b7, b6]

/-- A server's key. -/
theorem key_apply (b : Fin 128) (v : Fin 64) (h : Fin 128) :
    b36 j s (ix3 b v h) = (∑ k : Fin 128, b9 j s (ix3 b v k) * s.main_v13_7 (ix2 k h)) + s.main_v13_8 (ix1 h) := by
  pointwise [b36, b35, b34, b33]

/-- A server's value. -/
theorem val_apply (b : Fin 128) (v : Fin 64) (h : Fin 128) :
    b40 j s (ix3 b v h) = (∑ k : Fin 128, b9 j s (ix3 b v k) * s.main_v13_9 (ix2 k h)) + s.main_v13_10 (ix1 h) := by
  pointwise [b40, b39, b38, b37]

/-- A server's pointer key. -/
theorem ptr_apply (b : Fin 128) (v : Fin 64) (h : Fin 128) :
    b60 j s (ix3 b v h) = ∑ k : Fin 128, b9 j s (ix3 b v k) * s.main_v13_11 (ix2 k h) := by
  pointwise [b60]

/-- The user's query. -/
theorem query_apply (b : Fin 128) (h : Fin 128) :
    b32 j s (ix3 b 0 h) = (∑ k : Fin 128, b28 j s (ix3 b 0 k) * s.main_v13_5 (ix2 k h)) + s.main_v13_6 (ix1 h) := by
  pointwise [b32, b31, b30, b29]

/-- The attention's logits. -/
theorem logit_apply (b : Fin 128) (v : Fin 64) :
    b41 j s (ix3 b 0 v) = ∑ h : Fin 128, b32 j s (ix3 b 0 h) * b36 j s (ix3 b v h) := by
  pointwise [b41]

/-- The attention's weights. -/
theorem attn_apply (b : Fin 128) (v : Fin 64) :
    b58 j s (ix3 b 0 v) = Ideal.div (Ideal.exp (b41 j s (ix3 b 0 v) - max (Ideal.ofBits FTy.f32 4286578688#32)
        (Finset.fold max (Ideal.ofBits FTy.f32 4286578688#32) (fun x => b41 j s (ix3 b 0 x)) Finset.univ)))
      (∑ y, Ideal.exp (b41 j s (ix3 b 0 y) - max (Ideal.ofBits FTy.f32 4286578688#32)
        (Finset.fold max (Ideal.ofBits FTy.f32 4286578688#32) (fun x => b41 j s (ix3 b 0 x)) Finset.univ))) * Ideal.ofBits FTy.f32 1035273459#32 := by
  pointwise [b58, b57, b56, b55, b54, b53, b52, b51, b50, b49, b48, b47, b46, b45, b44, b43, b42]

/-- The glimpse. -/
theorem glimpse_apply (b : Fin 128) (h : Fin 128) :
    b59 j s (ix3 b 0 h) = ∑ v : Fin 64, b58 j s (ix3 b 0 v) * b40 j s (ix3 b v h) := by
  pointwise [b59]

/-- What the pointer's hyperbolic tangent is taken of. -/
theorem ctx_apply (b : Fin 128) (v : Fin 64) (h : Fin 128) :
    b63 j s (ix3 b v h) = b60 j s (ix3 b v h) + ∑ k : Fin 128, b59 j s (ix3 b 0 k) * s.main_v13_12 (ix2 k h) := by
  pointwise [b63, b62, b61]

theorem u_apply (b : Fin 128) (v : Fin 64) :
    b68 j s (ix2 b v) = Scalar.select (b18 j s (ix3 b 0 v))
      (∑ x, Ideal.tanh (b63 j s (ix3 b v x)) * s.main_v13_13 (ix2 x 0)) (K_main_v0 (F := Ideal) ix0) := by
  pointwise [b68, b67, b66, b65, b64, b19]

theorem smx_apply (b : Fin 128) (v : Fin 64) :
    b82 j s (ix2 b v) = Ideal.div (Ideal.exp (b68 j s (ix2 b v) - max (Ideal.ofBits FTy.f32 4286578688#32)
        (Finset.fold max (Ideal.ofBits FTy.f32 4286578688#32) (fun x => b68 j s (ix2 b x)) Finset.univ)))
      (∑ y, Ideal.exp (b68 j s (ix2 b y) - max (Ideal.ofBits FTy.f32 4286578688#32)
        (Finset.fold max (Ideal.ofBits FTy.f32 4286578688#32) (fun x => b68 j s (ix2 b x)) Finset.univ))) := by
  pointwise [b82, b81, b80, b79, b78, b77, b76, b75, b74, b73, b72, b71, b70, b69]

theorem prob_apply (b : Fin 128) :
    b84 j s (ix1 b) = Finset.fold max (Ideal.ofBits FTy.f32 4286578688#32) (fun x => b82 j s (ix2 b x)) Finset.univ := by
  pointwise [b84, b83]

theorem idx_apply (b : Fin 128) :
    b94 j s (ix1 b) = Finset.fold IntOp.minsi (2147483647#32)
      (fun x : Fin 64 => if b82 j s (ix2 b x) = b84 j s (ix1 b) then BitVec.ofNat 32 ↑x else 64#32) Finset.univ := by
  pointwise [b94, b93, b92, b91, b90, b89, b88, b87, b86, b85, K_main_v5]

theorem hot_apply (b : Fin 128) (v : Fin 64) :
    b110 j s (ix2 b v) = IntOp.cmpi CmpIPredicate.eq (BitVec.ofNat 32 ↑v) (b94 j s (ix1 b)) := by
  pointwise [b110, b109, b108, b107, b106, K_main_v5]

theorem jcap_apply (b : Fin 128) (c : Fin 4) :
    b118 j s (ix2 b c) = ∑ x, Scalar.select (b110 j s (ix2 b x)) (s.main_v13_20 (ix3 b x c)) 0 := by
  pointwise [b118, b117, b116, b115, b114, b113, b112, b111]

theorem can_apply (b : Fin 128) :
    b121 j s (ix1 b) = Finset.fold IntOp.andi (1#1)
      (fun x => BitVec.ofBool (decide (b105 j s (ix2 b x) ≤ b118 j s (ix2 b x)))) Finset.univ := by
  pointwise [b121, b120, b119]

theorem cap_apply (b : Fin 128) (v : Fin 64) (c : Fin 4) :
    b134 j s (ix3 b v c) = Scalar.select (IntOp.andi (b110 j s (ix2 b v)) (b121 j s (ix1 b)))
      (s.main_v13_20 (ix3 b v c) - b105 j s (ix2 b c)) (s.main_v13_20 (ix3 b v c)) := by
  pointwise [b134, b133, b132, b131, b130, b129, b128, b127, b126]

theorem alloc_apply (b : Fin 128) (v : Fin 64) :
    b138 j s (ix2 b v) = Scalar.select (IntOp.andi (b110 j s (ix2 b v)) (b121 j s (ix1 b)))
      (1#32) (s.main_v13_21 (ix2 b v)) := by
  pointwise [b138, b137, b136, b135, b128, b127, b126]

/-- Two indices with the same coordinates are the same. -/
theorem ix3_congr {n0 n1 n2 : ℕ} {a a' : Fin n0} {b b' : Fin n1} {c c' : Fin n2} (ha : a.1 = a'.1) (hb : b.1 = b'.1) (hc : c.1 = c'.1) :
    ix3 a b c = ix3 a' b' c' := by
  obtain rfl := Fin.ext ha
  obtain rfl := Fin.ext hb
  obtain rfl := Fin.ext hc
  rfl

/-- A trip's number as a slice's clamped start. -/
theorem word_start (t : Fin 32) :
    (min (max (BitVec.toInt (Scalar.select (IntOp.cmpi CmpIPredicate.slt (BitVec.ofNat 32 t.1) 0#32) (IntOp.addi (BitVec.ofNat 32 t.1) 32#32)
      (BitVec.ofNat 32 t.1))) 0) ((31 : ℕ) : ℤ)).toNat = t.1 := by
  revert t; decide

/-- A start of zero. -/
theorem zero_start : (min (max (BitVec.toInt 0#32) 0) ((0 : ℕ) : ℤ)).toNat = 0 := by decide

/-- The mask of the trip's user. -/
theorem mask_apply (t : Fin 32) (b : Fin 128) (v : Fin 64) :
    b18 t.1 s (ix3 b 0 v) = s.main_v13_3 (ix3 b t v) := by
  pointwise [b18]
  refine congrArg _ (ix3_congr ?_ ?_ ?_)
  · exact (congrArg (· + b.1) zero_start).trans (Nat.zero_add _)
  · exact word_start t
  · exact (congrArg (· + v.1) zero_start).trans (Nat.zero_add _)

/-- The encoding of the trip's user. -/
theorem user_apply (t : Fin 32) (b : Fin 128) (h : Fin 128) :
    b28 t.1 s (ix3 b 0 h) = s.main_v13_4 (ix3 b t h) := by
  pointwise [b28]
  refine congrArg _ (ix3_congr ?_ ?_ ?_)
  · exact (congrArg (· + b.1) zero_start).trans (Nat.zero_add _)
  · exact word_start t
  · exact (congrArg (· + h.1) zero_start).trans (Nat.zero_add _)

/-- The workload of the trip's user. -/
theorem work_apply (t : Fin 32) (b : Fin 128) (d : Fin 4) :
    b105 t.1 s (ix2 b d) = s.main_v13_16 (ix3 b t ⟨2 + d.1, by omega⟩) := by
  pointwise [b105, b104, b103]
  refine congrArg _ (ix3_congr ?_ ?_ ?_)
  · exact (congrArg (· + b.1) zero_start).trans (Nat.zero_add _)
  · exact word_start t
  · exact (congrArg (· + (2 + d.1)) zero_start).trans (Nat.zero_add _)

/-- A server's features: three fixed ones, its four capacities left, and its flag. -/
theorem feat_apply (b : Fin 128) (v : Fin 64) (c : Fin 8) :
    b5 j s (ix3 b v c) = if h : c.1 < 3 then s.main_v13_0 (ix3 b v ⟨c.1, by omega⟩)
      else if h : c.1 - 3 < 4 then s.main_v13_20 (ix3 b v ⟨c.1 - 3, h⟩)
      else FloatOps.sitofp (F := Ideal) FTy.f32 (s.main_v13_21 (ix2 b v)) := by
  pointwise [b5, b4, b3, b2]

theorem sid_apply (b : Fin 128) :
    b125 j s (ix1 b) = Scalar.select (b121 j s (ix1 b)) (b94 j s (ix1 b)) (4294967295#32) := by
  pointwise [b125, b124, b123, b122]

theorem ua_apply (b : Fin 128) (i : Fin 32) :
    b145 j s (ix2 b i) = Scalar.select (IntOp.cmpi CmpIPredicate.eq (BitVec.ofNat 32 ↑i) (BitVec.ofNat 32 j))
      (b125 j s (ix1 b)) (s.main_v13_22 (ix2 b i)) := by
  pointwise [b145, b144, b143, b142, b141, b140, b139, K_main_v6]
  rfl

theorem ap_apply (i : Fin 32) (b : Fin 128) :
    b152 j s (ix2 i b) = Scalar.select (IntOp.cmpi CmpIPredicate.eq (BitVec.ofNat 32 ↑i) (BitVec.ofNat 32 j))
      (b84 j s (ix1 b)) (s.main_v13_23 (ix2 i b)) := by
  pointwise [b152, b151, b150, b149, b148, b147, b146, K_main_v6]
  rfl

theorem ai_apply (b : Fin 128) (i : Fin 32) :
    b159 j s (ix2 b i) = Scalar.select (IntOp.cmpi CmpIPredicate.eq (BitVec.ofNat 32 ↑i) (BitVec.ofNat 32 j))
      (b94 j s (ix1 b)) (s.main_v13_24 (ix2 b i)) := by
  pointwise [b159, b158, b157, b156, b155, b154, b153, K_main_v6]
  rfl

theorem uap_apply (b : Fin 128) :
    R_main_v20 s (ix1 b) = Ideal.div (FloatOps.sitofp (F := Ideal) FTy.f32 (Finset.fold IntOp.addi (0#32)
      (fun x => BitVec.setWidth 32 (IntOp.cmpi CmpIPredicate.ne (s.main_v13_22 (ix2 b x)) 4294967295#32)) Finset.univ))
      (Ideal.ofBits FTy.f32 1107296256#32) := by
  pointwise [R_main_v20]

theorem sup_apply (b : Fin 128) :
    R_main_v24 s (ix1 b) = Ideal.div (FloatOps.sitofp (F := Ideal) FTy.f32 (Finset.fold IntOp.addi (0#32)
      (fun x => s.main_v13_21 (ix2 b x)) Finset.univ)) (Ideal.ofBits FTy.f32 1115684864#32) := by
  pointwise [R_main_v24]

theorem cup_apply (x : FVec Ideal S128x64x7 .f32) (b : Fin 128) :
    R_main_v36 s x (ix1 b) = 1 - Ideal.div
      (∑ v : Fin 64, ∑ d : Fin 4, Scalar.select (IntOp.cmpi CmpIPredicate.ne (s.main_v13_21 (ix2 b v)) 0#32) (s.main_v13_20 (ix3 b v d)) 0)
      (∑ v : Fin 64, ∑ d : Fin 4, Scalar.select (IntOp.cmpi CmpIPredicate.ne (s.main_v13_21 (ix2 b v)) 0#32) (x (ix3 b v ⟨3 + d.1, by omega⟩)) 0) := by
  pointwise [R_main_v36]
  have hz : (id (constant S_ FTy.f32 0#32) ix0 : Ideal .f32) = 0 := Ideal.ofBits_zero_f32
  rw [hz]
  simp only [id]
  pointwise

theorem obj_apply (x : FVec Ideal S128x64x7 .f32) (b : Fin 128) :
    R_main_v38 s x (ix1 b) = - (R_main_v20 s (ix1 b) + R_main_v36 s x (ix1 b)) := by
  pointwise [R_main_v38, R_main_v20, R_main_v36]

section
variable (x0 : FVec Ideal S128x32x6 .f32) (x1 : FVec Ideal S128x64x7 .f32) (x3 : FVec Ideal S6x128 .f32) (x4 : FVec Ideal S128 .f32)

/-- The users' encodings. -/
theorem uenc_apply (b : Fin 128) (t : Fin 32) (h : Fin 128) :
    A_main_v4 (F := Ideal) x0 x1 x3 x4 (ix3 b t h) = (∑ c, x0 (ix3 b t c) * x3 (ix2 c h)) + x4 (ix1 h) := by
  pointwise [A_main_v4, A_main_v3, A_main_v2, A_main_v1]

/-- The capacities at the start. -/
theorem cap0_apply (b : Fin 128) (v : Fin 64) (d : Fin 4) :
    A_main_v7 (F := Ideal) x0 x1 x3 x4 (ix3 b v d) = x1 (ix3 b v ⟨3 + d.1, by omega⟩) := by
  pointwise [A_main_v7]

theorem alloc0_apply (b : Fin 128) (v : Fin 64) : K_main_v8 (F := Ideal) (ix2 b v) = 0#32 := by
  pointwise [K_main_v8, K_main_c]

theorem ua0_apply (b : Fin 128) (i : Fin 32) : K_main_v10 (F := Ideal) (ix2 b i) = 4294967295#32 := by
  pointwise [K_main_v10, K_main_v9, K_main_c_0]
  rfl

theorem neg_eq : K_main_v0 (F := Ideal) ix0 = Ideal.log (Ideal.ofBits FTy.f32 1#32) := by
  pointwise [K_main_v0, K_main_cst]
end

end Cert.Proof.Ref

end
-- ==== Proof.KerReads.lean ====
/-
  The kernel's payloads, read at an index.
-/
module

public import proofs.«01_k».proof.Proof.Gen.KernelIdeal.Skeleton
public import Idealize.ShloMosaic.Lib.Pointwise

@[expose] public section

set_option maxRecDepth 16384

noncomputable section

namespace Cert.Proof.Ker

open Idealize.ShloMosaic Cert.KernelIdeal Cert.KernelIdeal.Gen

abbrev R : Type := Idealize.ShloMosaic.Ideal .f32

/-- The logits by way of all pairs of rows and the identity's diagonal. -/
def logits (v71 : FVec Ideal S128x128 .f32) (v131 : FVec Ideal S1x128x128 .f32) (v134 : FVec Ideal S128x64x128 .f32) : FVec Ideal S128x64 .f32 :=
  multiReduction .add [2] S128x64 (mulf (shapeCast S128x64x128 (matmul dot_S8192x128_S128x128_S8192x128_1_0_0_1_n_n none
    (shapeCast S8192x128 v134 shapeCasts_S128x64x128_S8192x128) (transpose S128x128 [1, 0] (shapeCast S128x128 v131 shapeCasts_S1x128x128_S128x128) transposes_S128x128_p1_0_S128x128)
    (constant S8192x128 .f32 0x00000000#32)) shapeCasts_S8192x128_S128x64x128)
    (broadcastTo S128x64x128 (shapeCast S128x1x128 v71 shapeCasts_S128x128_S128x1x128) broadcasts_S128x1x128_S128x64x128))
    0x00000000#32 reduces_S128x64x128_S128x64 (.inl rfl) rfl

/-- Unnormalised weights. -/
def expo (v141 : FVec Ideal S128x64 .f32) : FVec Ideal S128x64 .f32 :=
  exp (subf v141 (broadcastTo S128x64 (shapeCast S128x1 (multiReduction .maximumf [1] S128 v141 0xFF800000#32 reduces_S128x64_S128 (.inl rfl) rfl) shapeCasts_S128_S128x1) broadcasts_S128x1_S128x64))

/-- The attention's weights. -/
def attn (v141 : FVec Ideal S128x64 .f32) : FVec Ideal S128x64 .f32 :=
  mulf (divf (expo v141) (broadcastTo S128x64 (shapeCast S128x1 (multiReduction .add [1] S128 (expo v141) 0x00000000#32 reduces_S128x64_S128 (.inl rfl) rfl) shapeCasts_S128_S128x1) broadcasts_S128x1_S128x64))
    (broadcast S128x64 (Scalar.ofBits .f32 0x3DB504F3#32))

/-- The glimpse, by one product over all pairs of a batch and a server. -/
def glimpse (v71 : FVec Ideal S128x128 .f32) (v152 : FVec Ideal S128x64 .f32) (v160 : FVec Ideal S128x64x128 .f32) : FVec Ideal S128x128 .f32 :=
  matmul dot_S8192x128_S8192x128_S128x128_0_0_1_1_n_n none
    (shapeCast S8192x128 (mulf (broadcastTo S128x64x128 (shapeCast S1x64x128 (transpose S64x128 [1, 0] v152 transposes_S128x64_p1_0_S64x128) shapeCasts_S64x128_S1x64x128) broadcasts_S1x64x128_S128x64x128)
      (broadcastTo S128x64x128 (shapeCast S128x1x128 v71 shapeCasts_S128x128_S128x1x128) broadcasts_S128x1x128_S128x64x128)) shapeCasts_S128x64x128_S8192x128)
    (shapeCast S8192x128 v160 shapeCasts_S128x64x128_S8192x128) (constant S128x128 .f32 0x00000000#32)

theorem pay5_eq (v71 : FVec Ideal S128x128 .f32) (v131 : FVec Ideal S1x128x128 .f32) (v134 v160 : FVec Ideal S128x64x128 .f32) (v163 : FVec Ideal S128x128 .f32) (v165 : FVec Ideal S128x64x128 .f32) :
    k0_pay5 v71 v131 v134 v160 v163 v165 = addf v165 (broadcastTo S128x64x128 (shapeCast S128x1x128
      (matmul dot_S128x128_S128x128_S128x128_1_0_0_1_n_n none (glimpse v71 (attn (logits v71 v131 v134)) v160) v163 (constant S128x128 .f32 0x00000000#32)) shapeCasts_S128x128_S128x1x128) broadcasts_S128x1x128_S128x64x128) := rfl

theorem eye_apply (a b : Fin 128) : k0_pay36 (F := Ideal) (ix2 a b) = FloatOps.sitofp (F := Ideal) FTy.f32 (BitVec.setWidth 32 (IntOp.cmpi CmpIPredicate.eq (BitVec.ofNat 32 ↑a) (BitVec.ofNat 32 ↑b))) := by
  pointwise [k0_pay36]

theorem logits_apply (v71 : FVec Ideal S128x128 .f32) (v131 : FVec Ideal S1x128x128 .f32) (v134 : FVec Ideal S128x64x128 .f32) (b : Fin 128) (v : Fin 64) :
    logits v71 v131 v134 (ix2 b v) = ∑ x, (∑ h, v134 (ix3 b v h) * v131 (ix3 0 x h)) * v71 (ix2 b x) := by
  pointwise [logits]

theorem expo_apply (x : FVec Ideal S128x64 .f32) (b : Fin 128) (v : Fin 64) : expo x (ix2 b v) = Ideal.exp (x (ix2 b v) - Finset.fold max (Ideal.ofBits FTy.f32 4286578688#32) (fun y => x (ix2 b y)) Finset.univ) := by
  pointwise [expo]

theorem attn_apply (x : FVec Ideal S128x64 .f32) (b : Fin 128) (v : Fin 64) : attn x (ix2 b v) = Ideal.div (expo x (ix2 b v)) (∑ y, expo x (ix2 b y)) * Ideal.ofBits FTy.f32 1035273459#32 := by
  pointwise [attn]

theorem glimpse_apply (v71 : FVec Ideal S128x128 .f32) (x : FVec Ideal S128x64 .f32) (v160 : FVec Ideal S128x64x128 .f32) (b : Fin 128) (h : Fin 128) :
    glimpse v71 x v160 (ix2 b h) = ∑ r : Fin 8192, x (ix2 b ⟨r.1 % 64, by omega⟩) * v71 (ix2 ⟨r.1 / 64, by omega⟩ b)
      * v160 (ix3 ⟨r.1 / 64, by omega⟩ ⟨r.1 % 64, by omega⟩ h) := by
  pointwise [glimpse]

theorem ctx_apply (v71 : FVec Ideal S128x128 .f32) (v131 : FVec Ideal S1x128x128 .f32) (v134 v160 : FVec Ideal S128x64x128 .f32) (v163 : FVec Ideal S128x128 .f32) (v165 : FVec Ideal S128x64x128 .f32) (b : Fin 128) (v : Fin 64) (h : Fin 128) :
    k0_pay5 v71 v131 v134 v160 v163 v165 (ix3 b v h) = v165 (ix3 b v h) + ∑ x, glimpse v71 (attn (logits v71 v131 v134)) v160 (ix2 b x) * v163 (ix2 x h) := by
  rw [pay5_eq]
  pointwise

section
variable (v0 : R) (v65 : FVec Ideal S128x1 .f32) (c : FVec Ideal S128x64x128 .f32) (m : FVec Ideal S1x128x64 .f32) (w : FVec Ideal S1x128x4 .f32) (cap : FVec Ideal S4x128x64 .f32)
  (lan : IVec S128x64 32)
theorem p6 (b : Fin 128) (v : Fin 64) : k0_pay6 v0 v65 c m (ix2 b v) = if 0 < m (ix3 0 b v) then ∑ x, Ideal.tanh (c (ix3 b v x)) * v65 (ix2 x 0) else v0 := by
  pointwise [k0_pay6]
theorem p8 (b : Fin 128) : k0_pay8 v0 v65 c m (ix1 b) = Ideal.div 1 (∑ x, Ideal.exp (k0_pay6 v0 v65 c m (ix2 b x) - Finset.fold max (Ideal.ofBits FTy.f32 4286578688#32) (fun x => k0_pay6 v0 v65 c m (ix2 b x)) Finset.univ)) := by
  pointwise [k0_pay8, k0_pay7]
theorem p9 (b : Fin 128) : k0_pay9 v0 v65 lan c m (ix1 b) = Finset.fold IntOp.minsi (2147483647#32) (fun x => if k0_pay6 v0 v65 c m (ix2 b x) = Finset.fold max (Ideal.ofBits FTy.f32 4286578688#32) (fun x => k0_pay6 v0 v65 c m (ix2 b x)) Finset.univ then lan (ix2 b x) else 64#32) Finset.univ := by
  pointwise [k0_pay9, k0_pay7]
theorem p10 (b : Fin 128) (v : Fin 64) : k0_pay10 v0 v65 lan c m (ix2 b v) = FloatOps.sitofp (F := Ideal) FTy.f32 (BitVec.setWidth 32 (IntOp.cmpi CmpIPredicate.eq (lan (ix2 b v)) (k0_pay9 v0 v65 lan c m (ix1 b)))) := by
  pointwise [k0_pay10]
theorem p11 (d : Fin 4) (b : Fin 128) : k0_pay11 w (ix2 d b) = w (ix3 0 b d) := by
  pointwise [k0_pay11]
theorem p12 (d : Fin 4) (b : Fin 128) : k0_pay12 v0 v65 lan c m cap (ix2 d b) = ∑ x, cap (ix3 d b x) * k0_pay10 v0 v65 lan c m (ix2 b x) := by
  pointwise [k0_pay12]
theorem p13 (b : Fin 128) : k0_pay13 v0 v65 lan c m w cap (ix1 b) = Finset.fold min (Ideal.ofBits FTy.f32 2139095040#32) (fun x => FloatOps.sitofp (F := Ideal) FTy.f32
      (BitVec.setWidth 32 (BitVec.ofBool (decide (k0_pay11 w (ix2 x b) ≤ k0_pay12 v0 v65 lan c m cap (ix2 x b)))))) Finset.univ := by
  pointwise [k0_pay13]
theorem p14 (d : Fin 4) (b : Fin 128) : k0_pay14 v0 v65 lan c m w cap (ix2 d b) = k0_pay13 v0 v65 lan c m w cap (ix1 b) := by
  pointwise [k0_pay14]
end
section
variable (hot : FVec Ideal S128x64 .f32) (w4 j4 can4 : FVec Ideal S4x128 .f32) (cap : FVec Ideal S4x128x64 .f32) (can : FVec Ideal S128 .f32) (flag : FVec Ideal S128x64 .f32)
  (ix : IVec S128 32) (x5 : FVec Ideal S3x128x64 .f32) (Ws : FVec Ideal S8x128 .f32) (bs : FVec Ideal S128 .f32) (e : FVec Ideal S128x128 .f32) (W : FVec Ideal S128x128 .f32) (up : FVec Ideal S128x64 .f32)
  (K : FVec Ideal S128x64x128 .f32) (x1 : FVec Ideal S128x64x8 .f32)
theorem p16 (d : Fin 4) (b : Fin 128) (v : Fin 64) : k0_pay16 hot w4 cap can4 (ix3 d b v) = cap (ix3 d b v) - hot (ix2 b v) * (w4 (ix2 d b) * can4 (ix2 d b)) := by
  pointwise [k0_pay16, k0_pay15]
theorem p17 (b : Fin 128) (v : Fin 64) : k0_pay17 hot can (ix2 b v) = hot (ix2 b v) * can (ix1 b) := by
  pointwise [k0_pay17]
theorem p18 (b : Fin 128) (v : Fin 64) : k0_pay18 hot can flag (ix2 b v) = max (flag (ix2 b v)) (k0_pay17 hot can (ix2 b v)) := by
  pointwise [k0_pay18]
theorem p19 (b : Fin 128) : k0_pay19 ix can (ix1 b) = IntOp.addi (IntOp.muli (ix (ix1 b)) (FloatOps.fptosi (F := Ideal) (φ := .f32) 32 (can (ix1 b)))) (IntOp.subi (FloatOps.fptosi (F := Ideal) (φ := .f32) 32 (can (ix1 b))) 1#32) := by
  pointwise [k0_pay19]
theorem p20 (b h : Fin 128) : k0_pay20 hot w4 j4 can4 x5 Ws bs (ix2 b h) = (∑ x : Fin 8, (if h : x.1 < 3 then ∑ y, x5 (ix3 ⟨x.1, h⟩ b y) * hot (ix2 b y)
      else if h : x.1 - 3 < 4 then j4 (ix2 ⟨x.1 - 3, h⟩ b) - w4 (ix2 ⟨x.1 - 3, h⟩ b) * can4 (ix2 ⟨x.1 - 3, h⟩ b) else 1) * Ws (ix2 x h)) + bs (ix1 h) := by
  pointwise [k0_pay20, k0_pay15]
theorem p21 (b h : Fin 128) : k0_pay21 e W (ix2 b h) = ∑ x, e (ix2 b x) * W (ix2 x h) := by
  pointwise [k0_pay21]
theorem p24 (b : Fin 128) (v : Fin 64) (h : Fin 128) : k0_pay24 K up e W bs (ix3 b v h) = K (ix3 b v h) * (1 - up (ix2 b v)) + (∑ x, e (ix2 b x) * W (ix2 x h) + bs (ix1 h)) * up (ix2 b v) := by
  pointwise [k0_pay24, k0_pay23, k0_pay22]
theorem p25 (b : Fin 128) (v : Fin 64) (h : Fin 128) : k0_pay25 up e W bs K (ix3 b v h) = K (ix3 b v h) * (1 - up (ix2 b v)) + (∑ x, e (ix2 b x) * W (ix2 x h) + bs (ix1 h)) * up (ix2 b v) := by
  pointwise [k0_pay25, k0_pay23, k0_pay22]
theorem p38 (b : Fin 128) (v : Fin 64) (h : Fin 128) : k0_pay38 e (k0_pay22 up) (k0_pay23 up) K (ix3 b v h) = K (ix3 b v h) * (1 - up (ix2 b v)) + e (ix2 b h) * up (ix2 b v) := by
  pointwise [k0_pay38, k0_pay23, k0_pay22]
theorem p27 (r : Fin 8192) (h : Fin 128) : k0_pay27 x1 Ws bs (ix2 r h) = (∑ x, x1 (ix3 ⟨r.1 / 64, by omega⟩ ⟨r.1 % 64, by omega⟩ x) * Ws (ix2 x h)) + bs (ix1 h) := by
  pointwise [k0_pay27]
theorem p28 (b : Fin 128) (v : Fin 64) (h : Fin 128) (bk : FVec Ideal S128 .f32) : k0_pay28 x1 Ws bs W bk (ix3 b v h) = (∑ x, k0_pay27 x1 Ws bs (ix2 ⟨b.1 * 64 + v.1, by omega⟩ x) * W (ix2 x h)) + bk (ix1 h) := by
  pointwise [k0_pay28]
theorem p32 (t : Fin 32) (b : Fin 128) (h : Fin 128) (bk : FVec Ideal S128 .f32) (x2 : FVec Ideal S32x128x8 .f32) : k0_pay32 x2 Ws bs W bk (ix3 t b h) = (∑ x, ((∑ y, x2 (ix3 t b y) * Ws (ix2 y x)) + bs (ix1 x)) * W (ix2 x h)) + bk (ix1 h) := by
  pointwise [k0_pay32]
theorem p29 (b : Fin 128) (v : Fin 64) (h : Fin 128) (bk : FVec Ideal S128 .f32) : k0_pay29 x1 Ws bs W bk (ix3 b v h) = (∑ x, k0_pay27 x1 Ws bs (ix2 ⟨b.1 * 64 + v.1, by omega⟩ x) * W (ix2 x h)) + bk (ix1 h) := by
  pointwise [k0_pay29]
theorem p31 (b : Fin 128) (v : Fin 64) (h : Fin 128) : k0_pay31 (k0_pay30 x1 Ws bs W) (ix3 b v h) = ∑ x, k0_pay27 x1 Ws bs (ix2 ⟨b.1 * 64 + v.1, by omega⟩ x) * W (ix2 x h) := by
  pointwise [k0_pay31, k0_pay30]
theorem p33 : k0_pay33 cap = cap := by
  funext y
  pointwise [k0_pay33]
theorem p35 (b : Fin 128) (v : Fin 64) : k0_pay35 (F := Ideal) k0_pay34 (ix2 b v) = 0 := by
  pointwise [k0_pay35, k0_pay34]
theorem p37 (b : Fin 128) : k0_pay37 (F := Ideal) (ix1 b) = 0 := by
  pointwise [k0_pay37]
theorem p26 : k0_pay26 (F := Ideal) = Ideal.log (Ideal.ofBits FTy.f32 1#32) := by
  pointwise [k0_pay26]
  rfl
theorem p2 (x : FVec Ideal S32x128 .f32) (b : Fin 128) (t : Fin 32) : k0_pay2 (F := Ideal) x (ix2 b t) = x (ix2 t b) := by
  pointwise [k0_pay2]
theorem p3 (x : IVec S32x128 32) (b : Fin 128) (t : Fin 32) : k0_pay3 (F := Ideal) x (ix2 b t) = x (ix2 t b) := by
  pointwise [k0_pay3]
theorem p4 (x : IVec S32x128 32) (b : Fin 128) (t : Fin 32) : k0_pay4 (F := Ideal) x (ix2 b t) = x (ix2 t b) := by
  pointwise [k0_pay4]
theorem p39 (x : FVec Ideal S128 .f32) (b : Fin 128) : k0_pay39 (F := Ideal) x (ix2 0 b) = x (ix1 b) := by
  pointwise [k0_pay39]
theorem p40 (x : IVec S128 32) (b : Fin 128) : k0_pay40 x (ix2 0 b) = x (ix1 b) := by
  pointwise [k0_pay40]
theorem p41 (x : IVec S128 32) (b : Fin 128) : k0_pay41 x (ix2 0 b) = x (ix1 b) := by
  pointwise [k0_pay41]
theorem p42 (x y : FVec Ideal S128 .f32) (b : Fin 128) : k0_pay42 x y (ix1 b) = x (ix1 b) + y (ix1 b) := by
  pointwise [k0_pay42]
theorem p43 (x : FVec Ideal S128 .f32) (b : Fin 128) : k0_pay43 x (ix1 b) = x (ix1 b) * Ideal.ofBits FTy.f32 1023410176#32 := by
  pointwise [k0_pay43]
theorem p44 (x : FVec Ideal S128x64 .f32) (b : Fin 128) : k0_pay44 (F := Ideal) x (ix1 b) = (∑ y, x (ix2 b y)) * Ideal.ofBits FTy.f32 1015021568#32 := by
  pointwise [k0_pay44]
/-- Where an entry lands when the first and the last axis are summed away. -/
theorem drop_outer (d : Fin 4) (b : Fin 128) (v : Fin 64) : reduces_S4x128x64_S128.drop (ix3 d b v) = ix1 b := by
  funext a
  match a with
  | ⟨0, _⟩ => rfl

/-- The sum over the first and the last axis. -/
theorem sum_outer (x : S4x128x64.Idx → EReal) (b : Fin 128) :
    Ideal.reduceAdd reduces_S4x128x64_S128 x (ix1 b) = ∑ v : Fin 64, ∑ d : Fin 4, x (ix3 d b v) := by
  show ∑ i ∈ Finset.univ.filter (fun i => reduces_S4x128x64_S128.drop i = ix1 b), x i = _
  rw [Finset.sum_filter, sum_idx3, Finset.sum_comm' (t' := Finset.univ) (s' := fun _ => Finset.univ) (by simp)]
  have key : ∀ b' : Fin 128, ((ix1 b' : S128.Idx) = ix1 b) ↔ b' = b :=
    fun b' => ⟨fun h => congrFun h 0, fun h => h ▸ rfl⟩
  simp only [drop_outer, key]
  rw [Finset.sum_eq_single b (fun b' _ hb => by simp [hb]) (fun h => absurd (Finset.mem_univ _) h)]
  simp only [if_true]
  exact Finset.sum_comm

theorem p45 (x : FVec Ideal S128x64 .f32) (y z : FVec Ideal S4x128x64 .f32) (b : Fin 128) : k0_pay45 (F := Ideal) x y z (ix1 b) =
    1 - Ideal.div (∑ v : Fin 64, ∑ d : Fin 4, y (ix3 d b v) * x (ix2 b v)) (∑ v : Fin 64, ∑ d : Fin 4, z (ix3 d b v) * x (ix2 b v)) := by
  pointwise [k0_pay45]
  rw [sum_outer, sum_outer]
  pointwise
theorem p46 (a : FVec Ideal S128 .f32) (x : FVec Ideal S128x64 .f32) (y z : FVec Ideal S4x128x64 .f32) (b : Fin 128) : k0_pay46 (F := Ideal) a x y z (ix1 b) = 0 - (k0_pay43 a (ix1 b) + k0_pay45 (F := Ideal) x y z (ix1 b)) := by
  pointwise [k0_pay46]
theorem p1 (a b' c d : FVec Ideal S128 .f32) (b : Fin 128) (l : Fin 4) : k0_pay1 a b' c d (iota .tc S128x4 32 [1] iota_S128x4_d1_w32) 0#32 (ix2 b l) = Scalar.select (IntOp.cmpi CmpIPredicate.eq (BitVec.ofNat 32 ↑l) 0#32) (d (ix1 b))
      (Scalar.select (IntOp.cmpi CmpIPredicate.eq (BitVec.ofNat 32 ↑l) 1#32) (a (ix1 b))
        (Scalar.select (IntOp.cmpi CmpIPredicate.eq (BitVec.ofNat 32 ↑l) 2#32) (b' (ix1 b)) (c (ix1 b)))) := by
  pointwise [k0_pay1]
end

end Cert.Proof.Ker

end
-- ==== Proof.Arith.lean ====
/-
  Facts about extended reals that the comparison of the two programs rests on.
-/
module

public import Idealize.ShloMosaic.Lib.Pointwise

@[expose] public section

noncomputable section

namespace Cert.Proof.Arith

open Idealize.ShloMosaic

/-- The word the maxima start from denotes the bottom element. -/
theorem ofBits_bot : Ideal.ofBits FTy.f32 4286578688#32 = ⊥ := by
  simp [Ideal.ofBits, Ideal.ieee]

/-- The word the minima start from denotes the top element. -/
theorem ofBits_top : Ideal.ofBits FTy.f32 2139095040#32 = ⊤ := by
  simp [Ideal.ofBits, Ideal.ieee]

theorem ofBits_32 : Ideal.ofBits FTy.f32 1107296256#32 = ((32 : ℝ) : EReal) := by
  simp only [Ideal.ofBits, Ideal.ieee]
  simp
  rw [← EReal.coe_mul]; norm_num

theorem ofBits_64 : Ideal.ofBits FTy.f32 1115684864#32 = ((64 : ℝ) : EReal) := by
  simp only [Ideal.ofBits, Ideal.ieee]
  simp
  rw [← EReal.coe_mul]; norm_num

theorem ofBits_inv32 : Ideal.ofBits FTy.f32 1023410176#32 = ((1 / 32 : ℝ) : EReal) := by
  simp only [Ideal.ofBits, Ideal.ieee]
  simp
  rw [← EReal.coe_mul]; norm_num

theorem ofBits_inv64 : Ideal.ofBits FTy.f32 1015021568#32 = ((1 / 64 : ℝ) : EReal) := by
  simp only [Ideal.ofBits, Ideal.ieee]
  simp
  rw [← EReal.coe_mul]; norm_num

/-- The cast of a sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fill value of the masked scores is a real number. -/
theorem log_tiny : ∃ r : ℝ, Ideal.log (Ideal.ofBits FTy.f32 1#32) = (r : EReal) := by
  obtain ⟨r, hr, h⟩ : ∃ r : ℝ, 0 < r ∧ Ideal.ofBits FTy.f32 1#32 = (r : EReal) := by
    simp only [Ideal.ofBits, Ideal.ieee]
    simp
  refine ⟨Real.log r, ?_⟩
  rw [h]
  exact if_neg (not_le.2 hr)

/-- A hyperbolic tangent is a real number. -/
theorem tanh_real (x : EReal) : ∃ r : ℝ, Ideal.tanh x = (r : EReal) := by
  induction x with
  | bot => exact ⟨_, rfl⟩
  | top => exact ⟨_, rfl⟩
  | coe r => exact ⟨_, rfl⟩

/-- A finite sum of real numbers is a real number. -/
theorem sum_real {n : ℕ} (f : Fin n → EReal) (h : ∀ i, ∃ r : ℝ, f i = (r : EReal)) : ∃ r : ℝ, ∑ i, f i = (r : EReal) := by
  choose g hg using h
  exact ⟨∑ i, g i, by rw [coe_sum]; exact Finset.sum_congr rfl fun i _ => hg i⟩

/-- The greatest of finitely many real numbers is one of them and bounds them all. -/
theorem fold_max_real {n : ℕ} [NeZero n] (x : Fin n → ℝ) :
    ∃ k, Finset.fold max (⊥ : EReal) (fun i => (x i : EReal)) Finset.univ = (x k : EReal) ∧ ∀ i, x i ≤ x k := by
  obtain ⟨k, -, hk⟩ := Finset.exists_max_image Finset.univ x ⟨0, Finset.mem_univ _⟩
  refine ⟨k, le_antisymm ?_ ?_, fun i => hk i (Finset.mem_univ _)⟩
  · exact (Finset.fold_max_le _).2 ⟨bot_le, fun i _ => EReal.coe_le_coe_iff.2 (hk i (Finset.mem_univ _))⟩
  · exact (Finset.le_fold_max _).2 (Or.inr ⟨k, Finset.mem_univ _, le_rfl⟩)

/-- The greatest softmax weight of real scores is the reciprocal of the exponentials' sum, and it is attained exactly where
    the score is greatest. -/
theorem softmax_max {n : ℕ} [NeZero n] (x : Fin n → EReal) (hx : ∀ i, ∃ r : ℝ, x i = (r : EReal)) (p : Fin n → EReal)
    (hp : ∀ i, p i = Ideal.div (Ideal.exp (x i - max ⊥ (Finset.fold max ⊥ x Finset.univ)))
      (∑ y, Ideal.exp (x y - max ⊥ (Finset.fold max ⊥ x Finset.univ)))) :
    Finset.fold max ⊥ p Finset.univ = Ideal.div 1 (∑ y, Ideal.exp (x y - Finset.fold max ⊥ x Finset.univ))
      ∧ ∀ i, p i = Finset.fold max ⊥ p Finset.univ ↔ x i = Finset.fold max ⊥ x Finset.univ := by
  choose g hg using hx
  obtain rfl : x = fun i => (g i : EReal) := funext hg
  obtain ⟨k, hk, hle⟩ := fold_max_real g
  rw [max_eq_right bot_le] at hp
  rw [hk] at hp ⊢
  have hexp : ∀ i, Ideal.exp ((g i : EReal) - (g k : EReal)) = ((Real.exp (g i - g k) : ℝ) : EReal) := fun i => by
    rw [← EReal.coe_sub]; rfl
  set S : ℝ := ∑ y, Real.exp (g y - g k) with hS
  have hSp : 0 < S := Finset.sum_pos (fun i _ => Real.exp_pos _) ⟨0, Finset.mem_univ _⟩
  have hsum : ∑ y, Ideal.exp ((g y : EReal) - (g k : EReal)) = (S : EReal) := by
    rw [hS, coe_sum]; exact Finset.sum_congr rfl fun i _ => hexp i
  have hdiv : ∀ a : ℝ, Ideal.div (a : EReal) (S : EReal) = ((a / S : ℝ) : EReal) := fun a => by
    have h0 : (S : EReal) ≠ 0 := by exact_mod_cast hSp.ne'
    rw [Ideal.div, if_neg h0, ← EReal.coe_inv, ← EReal.coe_mul]; rfl
  have hp' : p = fun i => ((Real.exp (g i - g k) / S : ℝ) : EReal) := funext fun i => by
    rw [hp i, hsum, hexp, hdiv]
  obtain ⟨l, hl, hll⟩ := fold_max_real (fun i => Real.exp (g i - g k) / S)
  have hl1 : Real.exp (g l - g k) / S = 1 / S := by
    refine le_antisymm ?_ ?_
    · refine div_le_div_of_nonneg_right ?_ hSp.le
      rw [← Real.exp_zero]
      exact Real.exp_le_exp.2 (sub_nonpos.2 (hle l))
    · have := hll k
      simpa using this
  subst hp'
  rw [hl, hl1, hsum]
  refine ⟨by rw [← EReal.coe_one, hdiv], fun i => ?_⟩
  rw [EReal.coe_eq_coe_iff, EReal.coe_eq_coe_iff, div_left_inj' hSp.ne']
  rw [← Real.exp_zero, Real.exp_eq_exp, sub_eq_zero]

/-- A signed word as an extended real. -/
def sf (w : BitVec 32) : EReal := FloatOps.sitofp (F := Ideal) FTy.f32 w

theorem sf_one : sf 1#32 = 1 := by
  show (((1#32 : BitVec 32).toInt : ℝ) : EReal) = 1
  simp

theorem sf_zero : sf 0#32 = 0 := by
  show (((0#32 : BitVec 32).toInt : ℝ) : EReal) = 0
  simp

/-- A bit widened and converted is one or zero. -/
theorem sf_bit (c : BitVec 1) : sf (BitVec.setWidth 32 c) = if c = 1#1 then 1 else 0 := by
  by_cases h : c = 1#1
  · subst h; rw [if_pos rfl]; exact sf_one
  · obtain rfl : c = 0#1 := by revert c; decide
    rw [if_neg (by decide)]; exact sf_zero

theorem toInt_one : Ideal.fptosi 32 1 = 1#32 := by
  show BitVec.ofInt 32 (max _ (min _ (if (0 : ℝ) ≤ 1 then ⌊(1 : ℝ)⌋ else ⌈(1 : ℝ)⌉))) = _
  rw [if_pos zero_le_one, Int.floor_one]
  decide

theorem toInt_zero : Ideal.fptosi 32 0 = 0#32 := by
  show BitVec.ofInt 32 (max _ (min _ (if (0 : ℝ) ≤ 0 then ⌊(0 : ℝ)⌋ else ⌈(0 : ℝ)⌉))) = _
  rw [if_pos le_rfl, Int.floor_zero]
  decide

/-- The conjunction of finitely many bits. -/
theorem fold_and {ι : Type*} (s : Finset ι) (p : ι → Bool) :
    Finset.fold IntOp.andi (1#1) (fun d => BitVec.ofBool (p d)) s = 1#1 ↔ ∀ d ∈ s, p d = true := by
  classical
  induction s using Finset.induction_on with
  | empty => simp
  | insert a s ha ih =>
    rw [Finset.fold_insert ha, Finset.forall_mem_insert, ← ih]
    generalize Finset.fold IntOp.andi (1#1) (fun d => BitVec.ofBool (p d)) s = w
    generalize p a = q
    revert q w; decide

/-- The least of finitely many ones and zeros, from the top, is the conjunction's bit. -/
theorem fold_min_bits {n : ℕ} [NeZero n] (p : Fin n → Bool) :
    Finset.fold min (⊤ : EReal) (fun d => sf (BitVec.setWidth 32 (BitVec.ofBool (p d)))) Finset.univ
      = if Finset.fold IntOp.andi (1#1) (fun d => BitVec.ofBool (p d)) Finset.univ = 1#1 then 1 else 0 := by
  have hb : ∀ d, sf (BitVec.setWidth 32 (BitVec.ofBool (p d))) = if p d = true then 1 else 0 := fun d => by
    rw [sf_bit]; cases p d <;> simp
  simp only [hb]
  by_cases h : ∀ d ∈ Finset.univ, p d = true
  · rw [if_pos ((fold_and _ p).2 h)]
    refine le_antisymm ?_ ?_
    · exact (Finset.fold_min_le _).2 (Or.inr ⟨0, Finset.mem_univ _, by rw [if_pos (h 0 (Finset.mem_univ _))]⟩)
    · exact (Finset.le_fold_min _).2 ⟨le_top, fun d hd => by rw [if_pos (h d hd)]⟩
  · rw [if_neg (fun e => h ((fold_and _ p).1 e))]
    push Not at h
    obtain ⟨d, hd, hpd⟩ := h
    refine le_antisymm ?_ ?_
    · exact (Finset.fold_min_le _).2 (Or.inr ⟨d, hd, by rw [if_neg hpd]⟩)
    · exact (Finset.le_fold_min _).2 ⟨le_top, fun e _ => by split <;> simp⟩

/-- A selection by a bit. -/
theorem select_eq {α : Type} (c : BitVec 1) (x y : α) : Scalar.select c x y = if c = 1#1 then x else y := by
  by_cases h : c = 1#1
  · subst h; rfl
  · obtain rfl : c = 0#1 := by revert c; decide
    rfl

theorem and_eq_one (a b : BitVec 1) : IntOp.andi a b = 1#1 ↔ a = 1#1 ∧ b = 1#1 := by
  revert a b; decide

theorem cmpi_eq_one (a b : BitVec 32) : IntOp.cmpi CmpIPredicate.eq a b = 1#1 ↔ a = b := by
  show BitVec.ofBool (a == b) = 1#1 ↔ _
  by_cases h : a = b
  · simp [h]
  · simp [h, beq_false_of_ne h]

theorem cmpi_ne_one (a b : BitVec 32) : IntOp.cmpi CmpIPredicate.ne a b = 1#1 ↔ a ≠ b := by
  show BitVec.ofBool (a != b) = 1#1 ↔ _
  by_cases h : a = b
  · simp [h]
  · simp [h, bne, beq_false_of_ne h]

/-- The server's number where the user is taken, minus one elsewhere. -/
theorem sid_eq (i : BitVec 32) (p : Prop) [Decidable p] :
    IntOp.addi (IntOp.muli i (Ideal.fptosi 32 (if p then 1 else 0))) (IntOp.subi (Ideal.fptosi 32 (if p then 1 else 0)) 1#32)
      = if p then i else 4294967295#32 := by
  by_cases h : p
  · rw [if_pos h, if_pos h, toInt_one]
    show i * 1#32 + (1#32 - 1#32) = i
    simp
  · rw [if_neg h, if_neg h, toInt_zero]
    show i * 0#32 + (0#32 - 1#32) = _
    simp

end Cert.Proof.Arith

end
-- ==== Proof.Match.lean ====
/-
  One trip of the kernel against one trip of the reference.
-/
module

public import proofs.«01_k».proof.Proof.KernelIdealRows
public import proofs.«01_k».proof.Proof.RefReads
public import proofs.«01_k».proof.Proof.KerReads
public import proofs.«01_k».proof.Proof.Arith

@[expose] public section

set_option maxRecDepth 16384

noncomputable section

namespace Cert.Proof.Match

open Idealize.ShloMosaic
open Cert.KernelIdeal.Gen (k0_pay5 k0_pay6 k0_pay26 k0_pay36)
open Cert.KernelIdeal (k0_t1_loop k0_off1 k0_off2 k0_off3)
open Cert.ReferenceIdeal.Step
open Cert.Proof.Ref Cert.Proof.Arith

abbrev Inp := Cert.Proof.KernelIdeal.Inp Ideal
abbrev St := Cert.Proof.KernelIdeal.St Ideal
abbrev RS := Cert.ReferenceIdeal.Step.State Ideal

/-- The kernel's inputs hold what the reference's constants hold, each in the kernel's layout. -/
structure Same (X : Inp) (s : RS) : Prop where
  work : ∀ (t : Fin 32) (b : Fin 128) (d : Fin 4), X.x4 (ix3 t b d) = s.main_v13_16 (ix3 b t ⟨2 + d.1, by omega⟩)
  mask : ∀ (t : Fin 32) (b : Fin 128) (v : Fin 64), ((0 : EReal) < X.x3 (ix3 t b v)) ↔ s.main_v13_3 (ix3 b t v) = 1#1
  fixed : ∀ (c : Fin 3) (b : Fin 128) (v : Fin 64), X.x5 (ix3 c b v) = s.main_v13_0 (ix3 b v ⟨c.1, by omega⟩)
  cap0 : ∀ (d : Fin 4) (b : Fin 128) (v : Fin 64), X.x6 (ix3 d b v) = s.main_v13_0 (ix3 b v ⟨3 + d.1, by omega⟩)
  query : ∀ (t : Fin 32) (b h : Fin 128), Cert.Proof.KernelIdeal.qs X (ix3 t b h)
    = (∑ k : Fin 128, s.main_v13_4 (ix3 b t k) * s.main_v13_5 (ix2 k h)) + s.main_v13_6 (ix1 h)
  ws : X.x9 = s.main_v13_1
  bs : X.x10 = s.main_v13_2
  wk : X.x13 = s.main_v13_7
  bk : X.x14 = s.main_v13_8
  wv : X.x15 = s.main_v13_9
  bv : X.x16 = s.main_v13_10
  w1 : X.x17 = s.main_v13_11
  w2 : X.x18 = s.main_v13_12
  vt : X.x19 = s.main_v13_13
  fin : ∀ k : Fin 128, ∃ r : ℝ, X.x19 (ix2 k 0) = (r : EReal)

/-- The kernel's scratch holds what the reference's state determines. -/
structure Rel (st : St) (s : RS) : Prop where
  cap : ∀ (d : Fin 4) (b : Fin 128) (v : Fin 64), st.cap (ix3 d b v) = s.main_v13_20 (ix3 b v d)
  bit : ∀ (b : Fin 128) (v : Fin 64), s.main_v13_21 (ix2 b v) = 0#32 ∨ s.main_v13_21 (ix2 b v) = 1#32
  flag : ∀ (b : Fin 128) (v : Fin 64), st.flag (ix2 b v) = sf (s.main_v13_21 (ix2 b v))
  K : ∀ (b : Fin 128) (v : Fin 64) (h : Fin 128), st.K (ix3 b v h) = b36 0 s (ix3 b v h)
  V : ∀ (b : Fin 128) (v : Fin 64) (h : Fin 128), st.V (ix3 b v h) = b40 0 s (ix3 b v h)
  S1 : ∀ (b : Fin 128) (v : Fin 64) (h : Fin 128), st.S1 (ix3 b v h) = b60 0 s (ix3 b v h)

/-- A trip's number, as the loop counts it. -/
def T (t : Fin 32) : Fin k0_t1_loop.trips := ⟨t.1, by rw [Cert.Proof.KernelIdeal.trips_eq]; exact t.2⟩

theorem off1_eq (t : Fin k0_t1_loop.trips) : k0_off1 t = ![t.val, 0, 0] :=
  (by decide +kernel : ∀ t : Fin k0_t1_loop.trips, k0_off1 t = ![t.val, 0, 0]) t
theorem off2_eq (t : Fin k0_t1_loop.trips) : k0_off2 t = ![t.val, 0, 0] :=
  (by decide +kernel : ∀ t : Fin k0_t1_loop.trips, k0_off2 t = ![t.val, 0, 0]) t
theorem off3_eq (t : Fin k0_t1_loop.trips) : k0_off3 t = ![t.val, 0, 0] :=
  (by decide +kernel : ∀ t : Fin k0_t1_loop.trips, k0_off3 t = ![t.val, 0, 0]) t

/-- A one-row window of a rank-three array reads that row. -/
theorem window_row {α : Type} {n1 n2 : ℕ} (x : (⟨3, ![32, n1, n2]⟩ : Shape).Idx → α) (off : Fin 3 → ℕ) (t : Fin 32) (ho : off = ![t.1, 0, 0])
    (inb : ∀ a : Fin 3, off a + ![1, n1, n2] a ≤ ![32, n1, n2] a) (b : Fin n1) (h : Fin n2) :
    VecWindow.window (s := ⟨3, ![32, n1, n2]⟩) x off ![1, n1, n2] inb (ix3 (0 : Fin 1) b h) = x (ix3 t b h) := by
  subst ho
  refine congrArg x ?_
  funext a
  match a with
  | ⟨0, _⟩ => exact Fin.ext (by show t.1 + 1 * 0 = t.1; omega)
  | ⟨1, _⟩ => exact Fin.ext (by show 0 + 1 * b.1 = b.1; omega)
  | ⟨2, _⟩ => exact Fin.ext (by show 0 + 1 * h.1 = h.1; omega)

theorem mrow_apply (X : Inp) (t : Fin 32) (b : Fin 128) (v : Fin 64) : Cert.Proof.KernelIdeal.mrow X (T t) (ix3 0 b v) = X.x3 (ix3 t b v) :=
  window_row _ _ t (off2_eq _) _ b v
theorem wrow_apply (X : Inp) (t : Fin 32) (b : Fin 128) (d : Fin 4) : Cert.Proof.KernelIdeal.wrow X (T t) (ix3 0 b d) = X.x4 (ix3 t b d) :=
  window_row _ _ t (off3_eq _) _ b d

/-- The identity matrix's entries. -/
theorem eye_eq (a b : Fin 128) : k0_pay36 (F := Ideal) (ix2 a b) = if a = b then (1 : EReal) else 0 := by
  refine (Ker.eye_apply a b).trans ?_
  refine (sf_bit _).trans ?_
  have : (BitVec.ofNat 32 a.1 = BitVec.ofNat 32 b.1) ↔ a = b := by
    constructor
    · intro h
      have := congrArg BitVec.toNat h
      simp only [BitVec.toNat_ofNat] at this
      exact Fin.ext (by omega)
    · rintro rfl; rfl
  simp only [cmpi_eq_one, this]

/-- A sum against a row of the identity is one term. -/
theorem sum_eye (f : Fin 128 → EReal) (b : Fin 128) : ∑ x, f x * k0_pay36 (F := Ideal) (ix2 b x) = f b := by
  rw [Finset.sum_eq_single b]
  · rw [eye_eq, if_pos rfl, mul_one]
  · intro x _ hx; rw [eye_eq, if_neg (Ne.symm hx), mul_zero]
  · intro h; exact absurd (Finset.mem_univ _) h

/-- A sum over the pairs of a batch and a server, in row-major order. -/
theorem sum_pairs (f : Fin 8192 → EReal) : ∑ r, f r = ∑ a : Fin 128, ∑ v : Fin 64, f ⟨v.1 + 64 * a.1, by omega⟩ := by
  rw [← Fintype.sum_prod_type' (f := fun (a : Fin 128) (v : Fin 64) => f ⟨v.1 + 64 * a.1, by omega⟩)]
  refine (Fintype.sum_equiv (finProdFinEquiv (m := 128) (n := 64)) _ _ ?_).symm
  rintro ⟨a, v⟩
  rfl

theorem lanes_apply (b : Fin 128) (v : Fin 64) : Cert.Proof.KernelIdeal.lanes (ix2 b v) = BitVec.ofNat 32 v.1 := by
  pointwise [Cert.Proof.KernelIdeal.lanes]

section
variable {X : Inp} {s : RS} {st : St} (hS : Same X s) (hR : Rel st s) (t : Fin 32)
include hS hR

/-- The query the kernel reads is the reference's. -/
theorem query_eq (b h : Fin 128) :
    VecWindow.window (Cert.Proof.KernelIdeal.qs X) (k0_off1 (T t)) Cert.KernelIdeal.S1x128x128.size (Cert.KernelIdeal.Gen.k0_off1_inb (T t)) (ix3 0 b h)
      = b32 t.1 s (ix3 b 0 h) := by
  refine (window_row _ _ t (off1_eq _) _ b h).trans ?_
  rw [hS.query, Ref.query_apply]
  simp only [user_apply]

theorem logits_eq (b : Fin 128) (v : Fin 64) :
    Ker.logits (k0_pay36 (F := Ideal)) (VecWindow.window (Cert.Proof.KernelIdeal.qs X) (k0_off1 (T t)) Cert.KernelIdeal.S1x128x128.size (Cert.KernelIdeal.Gen.k0_off1_inb (T t))) st.K (ix2 b v)
      = b41 t.1 s (ix3 b 0 v) := by
  rw [Ker.logits_apply, sum_eye (fun x => ∑ h, st.K (ix3 b v h) * _), Ref.logit_apply]
  refine Finset.sum_congr rfl fun h _ => ?_
  rw [query_eq hS hR, hR.K]
  exact mul_comm _ _

/-- The attention's weights. -/
theorem attn_eq (b : Fin 128) (v : Fin 64) :
    Ker.attn (Ker.logits (k0_pay36 (F := Ideal)) (VecWindow.window (Cert.Proof.KernelIdeal.qs X) (k0_off1 (T t)) Cert.KernelIdeal.S1x128x128.size (Cert.KernelIdeal.Gen.k0_off1_inb (T t))) st.K) (ix2 b v)
      = b58 t.1 s (ix3 b 0 v) := by
  rw [Ker.attn_apply, Ref.attn_apply]
  simp only [Ker.expo_apply, logits_eq hS hR, ofBits_bot, max_eq_right bot_le]

/-- The glimpse. -/
theorem glimpse_eq (b h : Fin 128) :
    Ker.glimpse (k0_pay36 (F := Ideal)) (Ker.attn (Ker.logits (k0_pay36 (F := Ideal)) (VecWindow.window (Cert.Proof.KernelIdeal.qs X) (k0_off1 (T t)) Cert.KernelIdeal.S1x128x128.size (Cert.KernelIdeal.Gen.k0_off1_inb (T t))) st.K)) st.V (ix2 b h)
      = b59 t.1 s (ix3 b 0 h) := by
  rw [Ker.glimpse_apply, Ref.glimpse_apply, sum_pairs]
  have e1 : ∀ (a : Fin 128) (v : Fin 64), (v.1 + 64 * a.1) / 64 = a.1 := fun a v => by omega
  have e2 : ∀ (a : Fin 128) (v : Fin 64), (v.1 + 64 * a.1) % 64 = v.1 := fun a v => by omega
  simp only [e1, e2, Fin.eta]
  rw [Finset.sum_eq_single b]
  · refine Finset.sum_congr rfl fun v _ => ?_
    rw [eye_eq, if_pos rfl, mul_one, attn_eq hS hR, hR.V]
    rfl
  · intro a _ ha
    refine Finset.sum_eq_zero fun v _ => ?_
    rw [eye_eq, if_neg ha, mul_zero, zero_mul]
  · intro h; exact absurd (Finset.mem_univ _) h

/-- The pointer network's pre-activation. -/
theorem ctx_eq (b : Fin 128) (v : Fin 64) (h : Fin 128) :
    Cert.Proof.KernelIdeal.ctx X (T t) st (ix3 b v h) = b63 t.1 s (ix3 b v h) := by
  refine (Ker.ctx_apply _ _ _ _ _ _ b v h).trans ?_
  rw [Ref.ctx_apply, hR.S1]
  simp only [glimpse_eq hS hR, hS.w2]
  rfl

/-- The masked scores. -/
theorem score_eq (b : Fin 128) (v : Fin 64) :
    k0_pay6 (k0_pay26 (F := Ideal)) X.x19 (Cert.Proof.KernelIdeal.ctx X (T t) st) (Cert.Proof.KernelIdeal.mrow X (T t)) (ix2 b v) = b68 t.1 s (ix2 b v) := by
  refine (Ker.p6 _ _ _ _ b v).trans ?_
  rw [Ref.u_apply, select_eq, Ref.mask_apply, mrow_apply, Ker.p26, Ref.neg_eq]
  simp only [ctx_eq hS hR, hS.vt, hS.mask]

/-- The scores are real numbers. -/
theorem score_real (b : Fin 128) (v : Fin 64) : ∃ r : ℝ, b68 t.1 s (ix2 b v) = (r : EReal) := by
  rw [Ref.u_apply, select_eq, Ref.neg_eq]
  split
  · refine sum_real _ fun k => ?_
    obtain ⟨r, hr⟩ := tanh_real (b63 t.1 s (ix3 b v k))
    obtain ⟨q, hq⟩ := hS.fin k
    rw [hS.vt] at hq
    exact ⟨r * q, by rw [hr, hq, EReal.coe_mul]⟩
  · exact log_tiny

/-- The greatest weight and where it is attained. -/
theorem best (b : Fin 128) :
    b84 t.1 s (ix1 b) = Ideal.div 1 (∑ y, Ideal.exp (b68 t.1 s (ix2 b y) - Finset.fold max ⊥ (fun x => b68 t.1 s (ix2 b x)) Finset.univ))
      ∧ ∀ v : Fin 64, b82 t.1 s (ix2 b v) = b84 t.1 s (ix1 b) ↔ b68 t.1 s (ix2 b v) = Finset.fold max ⊥ (fun x => b68 t.1 s (ix2 b x)) Finset.univ := by
  have h := softmax_max (fun v : Fin 64 => b68 t.1 s (ix2 b v)) (fun v => score_real hS hR t b v) (fun v : Fin 64 => b82 t.1 s (ix2 b v))
    (fun v => by rw [Ref.smx_apply, ofBits_bot])
  rw [Ref.prob_apply, ofBits_bot]
  exact h

/-- The chosen server's probability. -/
theorem prob_eq (b : Fin 128) : Cert.Proof.KernelIdeal.prob X (T t) st (ix1 b) = b84 t.1 s (ix1 b) := by
  refine (Ker.p8 _ _ _ _ b).trans ?_
  rw [(best hS hR t b).1, ofBits_bot]
  simp only [score_eq hS hR]

/-- The chosen server. -/
theorem idx_eq (b : Fin 128) : Cert.Proof.KernelIdeal.idx X (T t) st (ix1 b) = b94 t.1 s (ix1 b) := by
  refine (Ker.p9 _ _ _ _ _ b).trans ?_
  rw [Ref.idx_apply]
  refine Finset.fold_congr fun v _ => ?_
  simp only [score_eq hS hR, ofBits_bot, (best hS hR t b).2 v, lanes_apply]

/-- The chosen server's indicator. -/
theorem hot_eq (b : Fin 128) (v : Fin 64) :
    Cert.Proof.KernelIdeal.hot X (T t) st (ix2 b v) = if b110 t.1 s (ix2 b v) = 1#1 then (1 : EReal) else 0 := by
  refine (Ker.p10 _ _ _ _ _ b v).trans ?_
  refine (sf_bit _).trans ?_
  rw [Ref.hot_apply, lanes_apply]
  have := idx_eq hS hR t b
  unfold Cert.Proof.KernelIdeal.idx at this
  rw [this]

/-- The chosen server's capacities. -/
theorem jcap_eq (d : Fin 4) (b : Fin 128) : Cert.Proof.KernelIdeal.jcap X (T t) st (ix2 d b) = b118 t.1 s (ix2 b d) := by
  refine (Ker.p12 _ _ _ _ _ _ d b).trans ?_
  rw [Ref.jcap_apply]
  refine Finset.sum_congr rfl fun v _ => ?_
  have := hot_eq hS hR t b v
  unfold Cert.Proof.KernelIdeal.hot at this
  rw [this, hR.cap, select_eq]
  split
  · exact mul_one _
  · exact mul_zero _

/-- Whether the chosen server can take the user. -/
theorem can_eq (b : Fin 128) : Cert.Proof.KernelIdeal.can X (T t) st (ix1 b) = if b121 t.1 s (ix1 b) = 1#1 then (1 : EReal) else 0 := by
  refine (Ker.p13 _ _ _ _ _ _ _ b).trans ?_
  have e : ∀ d : Fin 4, (Cert.KernelIdeal.Gen.k0_pay11 (F := Ideal) (Cert.Proof.KernelIdeal.wrow X (T t)) (ix2 d b)
      ≤ Cert.KernelIdeal.Gen.k0_pay12 k0_pay26 X.x19 Cert.Proof.KernelIdeal.lanes (Cert.Proof.KernelIdeal.ctx X (T t) st) (Cert.Proof.KernelIdeal.mrow X (T t)) st.cap (ix2 d b))
      ↔ b105 t.1 s (ix2 b d) ≤ b118 t.1 s (ix2 b d) := fun d => by
    have := jcap_eq hS hR t d b
    unfold Cert.Proof.KernelIdeal.jcap at this
    rw [this, Ker.p11, wrow_apply, hS.work, Ref.work_apply]
  simp only [e, ofBits_top]
  refine (fold_min_bits _).trans ?_
  rw [Ref.can_apply]

/-- The trip's bit at a server: it is the chosen one and can take the user. -/
def given (t : Fin 32) (s : RS) (b : Fin 128) (v : Fin 64) : Prop := b110 t.1 s (ix2 b v) = 1#1 ∧ b121 t.1 s (ix1 b) = 1#1

instance (t : Fin 32) (s : RS) (b : Fin 128) (v : Fin 64) : Decidable (given t s b v) := by unfold given; infer_instance

omit hS hR in
theorem given_iff (b : Fin 128) (v : Fin 64) : IntOp.andi (b110 t.1 s (ix2 b v)) (b121 t.1 s (ix1 b)) = 1#1 ↔ given t s b v := and_eq_one _ _

omit hS hR in
/-- The reference's capacities after the trip. -/
theorem cap_after (b : Fin 128) (v : Fin 64) (d : Fin 4) :
    (step t.1 s).main_v13_20 (ix3 b v d) = if given t s b v then s.main_v13_20 (ix3 b v d) - b105 t.1 s (ix2 b d) else s.main_v13_20 (ix3 b v d) := by
  rw [step_main_v13_20, Ref.cap_apply, select_eq]
  simp only [given_iff]

omit hS hR in
/-- The reference's flags after the trip. -/
theorem alloc_after (b : Fin 128) (v : Fin 64) :
    (step t.1 s).main_v13_21 (ix2 b v) = if given t s b v then 1#32 else s.main_v13_21 (ix2 b v) := by
  rw [step_main_v13_21, Ref.alloc_apply, select_eq]
  simp only [given_iff]

/-- The row the caches take up. -/
theorem upd_eq (b : Fin 128) (v : Fin 64) : Cert.Proof.KernelIdeal.upd X (T t) st (ix2 b v) = if given t s b v then (1 : EReal) else 0 := by
  refine (Ker.p17 _ _ b v).trans ?_
  rw [hot_eq hS hR, can_eq hS hR]
  by_cases h1 : b110 t.1 s (ix2 b v) = 1#1 <;> by_cases h2 : b121 t.1 s (ix1 b) = 1#1 <;> simp [given, h1, h2]

theorem can4_eq (d : Fin 4) (b : Fin 128) : Cert.Proof.KernelIdeal.can4 X (T t) st (ix2 d b) = if b121 t.1 s (ix1 b) = 1#1 then (1 : EReal) else 0 :=
  (Ker.p14 _ _ _ _ _ _ _ d b).trans (can_eq hS hR t b)

theorem work_eq (d : Fin 4) (b : Fin 128) : Cert.KernelIdeal.Gen.k0_pay11 (F := Ideal) (Cert.Proof.KernelIdeal.wrow X (T t)) (ix2 d b) = b105 t.1 s (ix2 b d) := by
  rw [Ker.p11, wrow_apply, hS.work, Ref.work_apply]

/-- The capacities after the trip. -/
theorem cap_step (d : Fin 4) (b : Fin 128) (v : Fin 64) :
    (Cert.Proof.KernelIdeal.step X (T t) st).cap (ix3 d b v) = (step t.1 s).main_v13_20 (ix3 b v d) := by
  refine (Ker.p16 _ _ _ _ d b v).trans ?_
  rw [hot_eq hS hR, work_eq hS hR, can4_eq hS hR, hR.cap, cap_after]
  by_cases h1 : b110 t.1 s (ix2 b v) = 1#1 <;> by_cases h2 : b121 t.1 s (ix1 b) = 1#1 <;> simp [given, h1, h2]

/-- The flags after the trip. -/
theorem flag_step (b : Fin 128) (v : Fin 64) :
    (Cert.Proof.KernelIdeal.step X (T t) st).flag (ix2 b v) = sf ((step t.1 s).main_v13_21 (ix2 b v)) := by
  refine (Ker.p18 _ _ _ b v).trans ?_
  have hu := upd_eq hS hR t b v
  unfold Cert.Proof.KernelIdeal.upd at hu
  rw [hu, hR.flag, alloc_after]
  by_cases h : given t s b v
  · rw [if_pos h, if_pos h, sf_one]
    rcases hR.bit b v with e | e <;> simp [e, sf_zero, sf_one]
  · rw [if_neg h, if_neg h]
    rcases hR.bit b v with e | e <;> simp [e, sf_zero, sf_one]

/-- Only the chosen server's indicator is one. -/
theorem hot_unique (b : Fin 128) (v y : Fin 64) (hv : b110 t.1 s (ix2 b v) = 1#1) :
    Cert.Proof.KernelIdeal.hot X (T t) st (ix2 b y) = if y = v then (1 : EReal) else 0 := by
  rw [hot_eq hS hR]
  simp only [Ref.hot_apply, cmpi_eq_one] at hv ⊢
  have : (BitVec.ofNat 32 y.1 = b94 t.1 s (ix1 b)) ↔ y = v := by
    rw [← hv]
    constructor
    · intro h
      have := congrArg BitVec.toNat h
      simp only [BitVec.toNat_ofNat] at this
      exact Fin.ext (by omega)
    · rintro rfl; rfl
  simp only [this]

/-- A sum against the chosen server's indicator is one term. -/
theorem sum_hot (f : Fin 64 → EReal) (b : Fin 128) (v : Fin 64) (hv : b110 t.1 s (ix2 b v) = 1#1) :
    ∑ y, f y * Cert.Proof.KernelIdeal.hot X (T t) st (ix2 b y) = f v := by
  rw [Finset.sum_eq_single v]
  · rw [hot_unique hS hR t b v v hv, if_pos rfl, mul_one]
  · intro y _ hy; rw [hot_unique hS hR t b v y hv, if_neg hy, mul_zero]
  · intro h; exact absurd (Finset.mem_univ _) h

/-- The chosen server's new encoding is the reference's of the next trip. -/
theorem enc_eq (b : Fin 128) (v : Fin 64) (h : Fin 128) (hg : given t s b v) :
    Cert.Proof.KernelIdeal.enc X (T t) st (ix2 b h) = b9 0 (step t.1 s) (ix3 b v h) := by
  refine (Ker.p20 _ _ _ _ _ _ _ b h).trans ?_
  rw [Ref.enc_apply, hS.ws, hS.bs]
  refine congrArg₂ (· + ·) (Finset.sum_congr rfl fun x _ => congrArg₂ (· * ·) ?_ rfl) rfl
  rw [Ref.feat_apply]
  split
  · next hx =>
    rw [sum_hot hS hR t (fun y => X.x5 (ix3 ⟨x.1, hx⟩ b y)) b v hg.1]
    exact hS.fixed _ b v
  · split
    · next hx hx' =>
      rw [cap_after, if_pos hg, jcap_eq hS hR, work_eq hS hR, can4_eq hS hR, if_pos hg.2, mul_one]
      refine congrArg₂ (· - ·) ?_ rfl
      rw [← jcap_eq hS hR]
      refine (Ker.p12 _ _ _ _ _ _ _ b).trans ?_
      refine (sum_hot hS hR t (fun y => st.cap (ix3 ⟨x.1 - 3, hx'⟩ b y)) b v hg.1).trans ?_
      exact hR.cap _ b v
    · rw [alloc_after, if_pos hg]
      exact sf_one.symm

omit hS hR in
/-- A server's encoding stays where nothing is given to it. -/
theorem enc_same (b : Fin 128) (v : Fin 64) (h : Fin 128) (hg : ¬ given t s b v) :
    b9 0 (step t.1 s) (ix3 b v h) = b9 0 s (ix3 b v h) := by
  rw [Ref.enc_apply, Ref.enc_apply]
  refine congrArg₂ (· + ·) (Finset.sum_congr rfl fun x _ => congrArg₂ (· * ·) ?_ rfl) rfl
  rw [Ref.feat_apply, Ref.feat_apply]
  split
  · rfl
  · split
    · rw [cap_after, if_neg hg]
    · rw [alloc_after, if_neg hg]

omit hS hR in
/-- Blending by one or zero. -/
theorem blend (a r u : EReal) (p : Prop) [Decidable p] (hu : u = if p then 1 else 0) : a * (1 - u) + r * u = if p then r else a := by
  subst hu
  by_cases h : p
  · rw [if_pos h, if_pos h]
    have : (1 : EReal) - 1 = 0 := by rw [← EReal.coe_one, ← EReal.coe_sub, sub_self, EReal.coe_zero]
    rw [this]; simp
  · rw [if_neg h, if_neg h]; simp

theorem K_step (b : Fin 128) (v : Fin 64) (h : Fin 128) :
    (Cert.Proof.KernelIdeal.step X (T t) st).K (ix3 b v h) = b36 0 (step t.1 s) (ix3 b v h) := by
  refine (Ker.p24 _ _ _ _ _ b v h).trans ?_
  rw [blend _ _ _ _ (upd_eq hS hR t b v), Ref.key_apply, hR.K, hS.wk, hS.bk]
  by_cases hg : given t s b v
  · rw [if_pos hg]
    simp only [enc_eq hS hR t b v _ hg]
    rfl
  · rw [if_neg hg]
    simp only [enc_same t b v _ hg]
    exact Ref.key_apply 0 s b v h

theorem V_step (b : Fin 128) (v : Fin 64) (h : Fin 128) :
    (Cert.Proof.KernelIdeal.step X (T t) st).V (ix3 b v h) = b40 0 (step t.1 s) (ix3 b v h) := by
  refine (Ker.p25 _ _ _ _ _ b v h).trans ?_
  rw [blend _ _ _ _ (upd_eq hS hR t b v), Ref.val_apply, hR.V, hS.wv, hS.bv]
  by_cases hg : given t s b v
  · rw [if_pos hg]
    simp only [enc_eq hS hR t b v _ hg]
    rfl
  · rw [if_neg hg]
    simp only [enc_same t b v _ hg]
    exact Ref.val_apply 0 s b v h

theorem S1_step (b : Fin 128) (v : Fin 64) (h : Fin 128) :
    (Cert.Proof.KernelIdeal.step X (T t) st).S1 (ix3 b v h) = b60 0 (step t.1 s) (ix3 b v h) := by
  refine (Ker.p38 _ _ _ b v h).trans ?_
  rw [blend _ _ _ _ (upd_eq hS hR t b v), Ref.ptr_apply, hR.S1]
  by_cases hg : given t s b v
  · rw [if_pos hg, Ker.p21]
    simp only [enc_eq hS hR t b v _ hg, hS.w1]
    rfl
  · rw [if_neg hg]
    simp only [enc_same t b v _ hg]
    exact Ref.ptr_apply 0 s b v h

/-- The relation holds after a trip if it held before. -/
theorem Rel.next : Rel (Cert.Proof.KernelIdeal.step X (T t) st) (step t.1 s) where
  cap := cap_step hS hR t
  bit b v := by
    rw [alloc_after]
    split
    · exact Or.inr rfl
    · exact hR.bit b v
  flag := flag_step hS hR t
  K := K_step hS hR t
  V := V_step hS hR t
  S1 := S1_step hS hR t

omit hR in
/-- A trip leaves the constants. -/
theorem Same.next : Same X (step t.1 s) := ⟨hS.work, hS.mask, hS.fixed, hS.cap0, hS.query, hS.ws, hS.bs, hS.wk, hS.bk, hS.wv, hS.bv, hS.w1, hS.w2, hS.vt, hS.fin⟩

/-- The number of the server that took the user, or minus one. -/
theorem sid_step (b : Fin 128) :
    Cert.KernelIdeal.Gen.k0_pay19 (F := Ideal) (Cert.Proof.KernelIdeal.idx X (T t) st) (Cert.Proof.KernelIdeal.can X (T t) st) (ix1 b) = b125 t.1 s (ix1 b) := by
  refine (Ker.p19 _ _ b).trans ?_
  rw [can_eq hS hR, idx_eq hS hR, Ref.sid_apply, select_eq]
  exact sid_eq _ _

end

end Cert.Proof.Match

end
-- ==== Proof.Results.lean ====
/-
  All trips, and the seven results of each program.
-/
module

public import proofs.«01_k».proof.Proof.Match

@[expose] public section

set_option maxRecDepth 16384

noncomputable section

namespace Cert.Proof.Results

open Idealize.ShloMosaic
open Cert.ReferenceIdeal.Step
open Cert.Proof.Ref Cert.Proof.Arith Cert.Proof.Match
open Cert.KernelIdeal (k0_t1_loop)

/-- The reference's state after so many trips. -/
def ref (s0 : RS) : ℕ → RS
  | 0 => s0
  | n + 1 => step n (ref s0 n)

theorem ref_features (s0 : RS) (n : ℕ) : (ref s0 n).main_v13_0 = s0.main_v13_0 := by
  induction n with
  | zero => rfl
  | succ n ih => exact ih

/-! Counting. -/

/-- Adding ones and zeros counts the ones. -/
theorem fold_count {ι : Type*} (s : Finset ι) (p : ι → Prop) [DecidablePred p] :
    Finset.fold IntOp.addi (0#32) (fun x => if p x then 1#32 else 0#32) s = BitVec.ofNat 32 (s.filter p).card := by
  classical
  induction s using Finset.induction_on with
  | empty => rfl
  | insert a s ha ih =>
    rw [Finset.fold_insert ha, ih, Finset.filter_insert]
    by_cases h : p a
    · rw [if_pos h, if_pos h, Finset.card_insert_of_notMem (by simp [ha])]
      show 1#32 + BitVec.ofNat 32 _ = _
      rw [Nat.add_comm, BitVec.ofNat_add]
    · rw [if_neg h, if_neg h]
      show 0#32 + _ = _
      rw [BitVec.zero_add]

theorem sum_count {ι : Type*} (s : Finset ι) (p : ι → Prop) [DecidablePred p] :
    ∑ x ∈ s, (if p x then (1 : EReal) else 0) = (((s.filter p).card : ℝ) : EReal) := by
  rw [Finset.card_filter, Nat.cast_sum, coe_sum]
  refine Finset.sum_congr rfl fun x _ => ?_
  split <;> simp

/-- A count of at most 64 as a word, converted. -/
theorem sf_count (n : ℕ) (h : n ≤ 64) : sf (BitVec.ofNat 32 n) = ((n : ℝ) : EReal) := by
  show (((BitVec.ofNat 32 n).toInt : ℝ) : EReal) = _
  have : (BitVec.ofNat 32 n).toInt = (n : ℤ) := by
    rw [BitVec.toInt_ofNat']
    have e : ((2 ^ 32 : ℕ) : ℤ) = 4294967296 := by norm_num
    rw [Int.bmod_def, e]
    split <;> omega
  rw [this]; rfl

/-- The conversion of a count is the sum of the converted. -/
theorem sf_fold {n : ℕ} (hn : n ≤ 64) (p : Fin n → Prop) [DecidablePred p] :
    sf (Finset.fold IntOp.addi (0#32) (fun x => if p x then 1#32 else 0#32) Finset.univ) = ∑ x, (if p x then (1 : EReal) else 0) := by
  rw [fold_count, sum_count, sf_count]
  exact (Finset.card_le_univ _).trans (by simpa using hn)

/-- The least of words none of which is minus one is not minus one. -/
theorem fold_min_ne {ι : Type*} (s : Finset ι) (f : ι → BitVec 32) (h : ∀ x ∈ s, f x ≠ 4294967295#32) :
    Finset.fold IntOp.minsi (2147483647#32) f s ≠ 4294967295#32 := by
  classical
  induction s using Finset.induction_on with
  | empty => simp
  | insert a s ha ih =>
    rw [Finset.fold_insert ha]
    have h1 := h a (Finset.mem_insert_self _ _)
    have h2 := ih fun x hx => h x (Finset.mem_insert_of_mem hx)
    unfold IntOp.minsi
    split
    · exact h1
    · exact h2

/-- The chosen server's number is not minus one. -/
theorem idx_ne (j : ℕ) (s : RS) (b : Fin 128) : b94 j s (ix1 b) ≠ 4294967295#32 := by
  rw [Ref.idx_apply]
  refine fold_min_ne _ _ fun x _ => ?_
  split
  · intro h
    have := congrArg BitVec.toNat h
    simp only [BitVec.toNat_ofNat] at this
    omega
  · decide

theorem sid_ne (j : ℕ) (s : RS) (b : Fin 128) : b125 j s (ix1 b) ≠ 4294967295#32 ↔ b121 j s (ix1 b) = 1#1 := by
  rw [Ref.sid_apply, select_eq]
  by_cases h : b121 j s (ix1 b) = 1#1
  · rw [if_pos h]; exact ⟨fun _ => h, fun _ => idx_ne j s b⟩
  · rw [if_neg h]; exact ⟨fun e => absurd rfl e, fun e => absurd e h⟩

/-! The columns the reference writes. -/

theorem trip_word (i : Fin 32) (k : ℕ) (hk : k < 32) : IntOp.cmpi CmpIPredicate.eq (BitVec.ofNat 32 i.1) (BitVec.ofNat 32 k) = 1#1 ↔ i.1 = k := by
  rw [cmpi_eq_one]
  constructor
  · intro h
    have := congrArg BitVec.toNat h
    simp only [BitVec.toNat_ofNat] at this
    omega
  · intro h; rw [h]

/-- After trip `i`, its entries of the three result arrays are what the trip made. -/
theorem columns (s0 : RS) (i : Fin 32) (b : Fin 128) (k : ℕ) (hk : k ≤ 32) (hi : i.1 < k) :
    (ref s0 k).main_v13_22 (ix2 b i) = b125 i.1 (ref s0 i.1) (ix1 b)
    ∧ (ref s0 k).main_v13_23 (ix2 i b) = b84 i.1 (ref s0 i.1) (ix1 b)
    ∧ (ref s0 k).main_v13_24 (ix2 b i) = b94 i.1 (ref s0 i.1) (ix1 b) := by
  induction k with
  | zero => omega
  | succ k ih =>
    have e : ref s0 (k + 1) = step k (ref s0 k) := rfl
    rw [e, step_main_v13_22, step_main_v13_23, step_main_v13_24, Ref.ua_apply, Ref.ap_apply, Ref.ai_apply, select_eq, select_eq, select_eq]
    simp only [trip_word i k (by omega)]
    by_cases h : i.1 = k
    · subst h
      simp only [if_true]
      exact ⟨trivial, trivial, trivial⟩
    · simp only [if_neg h]
      exact ih (by omega) (by omega)

section
variable {X : Inp} {s0 : RS} {st0 : St} (hS : Same X s0) (hR : Rel st0 s0)
include hS hR

/-- The two states go together through all trips. -/
theorem together (k : ℕ) (hk : k ≤ 32) : Same X (ref s0 k) ∧ Rel (Cert.Proof.KernelIdeal.iter X st0 k) (ref s0 k) := by
  induction k with
  | zero => exact ⟨hS, hR⟩
  | succ k ih =>
    obtain ⟨h1, h2⟩ := ih (by omega)
    have e : Cert.Proof.KernelIdeal.iter X st0 (k + 1) = Cert.Proof.KernelIdeal.step X (T ⟨k, by omega⟩) (Cert.Proof.KernelIdeal.iter X st0 k) :=
      Cert.Proof.KernelIdeal.iter_succ X st0 (T ⟨k, by omega⟩)
    rw [e]
    exact ⟨Same.next h1 ⟨k, by omega⟩, Rel.next h1 h2 ⟨k, by omega⟩⟩

/-- The count the kernel carries. -/
theorem count (h0 : ∀ b, st0.acc (ix1 b) = (0 : EReal)) (b : Fin 128) (k : ℕ) (hk : k ≤ 32) :
    (Cert.Proof.KernelIdeal.iter X st0 k).acc (ix1 b) = ∑ j ∈ Finset.range k, if b121 j (ref s0 j) (ix1 b) = 1#1 then (1 : EReal) else 0 := by
  induction k with
  | zero => exact h0 b
  | succ k ih =>
    obtain ⟨h1, h2⟩ := together hS hR k (by omega)
    have e : Cert.Proof.KernelIdeal.iter X st0 (k + 1) = Cert.Proof.KernelIdeal.step X (T ⟨k, by omega⟩) (Cert.Proof.KernelIdeal.iter X st0 k) :=
      Cert.Proof.KernelIdeal.iter_succ X st0 (T ⟨k, by omega⟩)
    rw [e, Finset.sum_range_succ, ← ih (by omega)]
    refine (Ker.p42 _ _ b).trans ?_
    rw [can_eq h1 h2 ⟨k, by omega⟩ b]

/-- The kernel's row of a result array is the reference's column. -/
theorem rows_eq (i : Fin 32) (b : Fin 128) :
    (Cert.Proof.KernelIdeal.iter X st0 32).uacc (ix2 i b) = (ref s0 32).main_v13_22 (ix2 b i)
    ∧ (Cert.Proof.KernelIdeal.iter X st0 32).pacc (ix2 i b) = (ref s0 32).main_v13_23 (ix2 i b)
    ∧ (Cert.Proof.KernelIdeal.iter X st0 32).iacc (ix2 i b) = (ref s0 32).main_v13_24 (ix2 b i) := by
  obtain ⟨h1, h2⟩ := together hS hR i.1 (by omega)
  obtain ⟨c1, c2, c3⟩ := columns s0 i b 32 le_rfl i.2
  obtain ⟨r1, r2, r3⟩ := Cert.Proof.KernelIdeal.rows X st0 (ix2 i b) (T i) rfl 32 i.2
  rw [c1, c2, c3]
  refine ⟨r3.trans ?_, r1.trans ?_, r2.trans ?_⟩
  · exact (Ker.p41 _ b).trans (sid_step h1 h2 i b)
  · exact (Ker.p39 _ b).trans (prob_eq h1 h2 i b)
  · exact (Ker.p40 _ b).trans (idx_eq h1 h2 i b)

/-- The share of users that were taken. -/
theorem uap_eq (h0 : ∀ b, st0.acc (ix1 b) = (0 : EReal)) (b : Fin 128) :
    Cert.KernelIdeal.Gen.k0_pay43 (F := Ideal) (Cert.Proof.KernelIdeal.iter X st0 32).acc (ix1 b) = R_main_v20 (ref s0 32) (ix1 b) := by
  rw [Ker.p43, Ref.uap_apply, count hS hR h0 b 32 le_rfl, ofBits_inv32, ofBits_32, Ideal.div_coe (by norm_num)]
  refine congrArg (· * _) ?_
  rw [Finset.sum_range]
  refine Eq.trans ?_ (congrArg sf (Finset.fold_congr (f := fun x : Fin 32 => if b121 x.1 (ref s0 x.1) (ix1 b) = 1#1 then 1#32 else 0#32) fun x _ => ?_))
  · exact (sf_fold (by norm_num) (fun x : Fin 32 => b121 x.1 (ref s0 x.1) (ix1 b) = 1#1)).symm
  · rw [(columns s0 x b 32 le_rfl x.2).1]
    by_cases h : b121 x.1 (ref s0 x.1) (ix1 b) = 1#1
    · rw [if_pos h, (cmpi_ne_one _ _).2 ((sid_ne _ _ _).2 h)]; rfl
    · have : IntOp.cmpi CmpIPredicate.ne (b125 x.1 (ref s0 x.1) (ix1 b)) 4294967295#32 = 0#1 := by
        have := fun e => h ((sid_ne _ _ _).1 ((cmpi_ne_one _ _).1 e))
        revert this
        generalize IntOp.cmpi CmpIPredicate.ne (b125 x.1 (ref s0 x.1) (ix1 b)) 4294967295#32 = w
        revert w; decide
      rw [if_neg h, this]; rfl

/-- The share of servers in use. -/
theorem sup_eq (b : Fin 128) :
    Cert.KernelIdeal.Gen.k0_pay44 (F := Ideal) (Cert.Proof.KernelIdeal.iter X st0 32).flag (ix1 b) = R_main_v24 (ref s0 32) (ix1 b) := by
  obtain ⟨h1, h2⟩ := together hS hR 32 le_rfl
  rw [Ker.p44, Ref.sup_apply, ofBits_inv64, ofBits_64, Ideal.div_coe (by norm_num)]
  refine congrArg (· * _) ?_
  have e : ∀ x : Fin 64, (ref s0 32).main_v13_21 (ix2 b x) = if (ref s0 32).main_v13_21 (ix2 b x) = 1#32 then 1#32 else 0#32 := fun x => by
    rcases h2.bit b x with h | h <;> rw [h] <;> rfl
  refine Eq.trans ?_ (congrArg sf (Finset.fold_congr (g := fun x => (ref s0 32).main_v13_21 (ix2 b x)) fun x _ => (e x).symm))
  rw [sf_fold (by norm_num)]
  refine Finset.sum_congr rfl fun x _ => ?_
  rw [h2.flag]
  rcases h2.bit b x with h | h <;> rw [h]
  · exact sf_zero.trans (if_neg (by decide)).symm
  · exact sf_one.trans (if_pos rfl).symm

/-- The share of capacity in use. -/
theorem cup_eq (b : Fin 128) :
    Cert.KernelIdeal.Gen.k0_pay45 (F := Ideal) (Cert.Proof.KernelIdeal.iter X st0 32).flag (Cert.Proof.KernelIdeal.iter X st0 32).cap X.x6 (ix1 b)
      = R_main_v36 (ref s0 32) (ref s0 32).main_v13_0 (ix1 b) := by
  obtain ⟨h1, h2⟩ := together hS hR 32 le_rfl
  rw [Ker.p45, Ref.cup_apply]
  have e : ∀ (y : EReal) (v : Fin 64), y * (Cert.Proof.KernelIdeal.iter X st0 32).flag (ix2 b v)
      = Scalar.select (IntOp.cmpi CmpIPredicate.ne ((ref s0 32).main_v13_21 (ix2 b v)) 0#32) y 0 := fun y v => by
    rw [h2.flag, select_eq]
    rcases h2.bit b v with h | h <;> rw [h]
    · rw [sf_zero, mul_zero, if_neg (by decide)]
    · rw [sf_one, mul_one, if_pos (by decide)]
  simp only [e, h2.cap, h1.cap0]

/-- The objective. -/
theorem obj_eq (h0 : ∀ b, st0.acc (ix1 b) = (0 : EReal)) (b : Fin 128) :
    Cert.KernelIdeal.Gen.k0_pay46 (F := Ideal) (Cert.Proof.KernelIdeal.iter X st0 32).acc (Cert.Proof.KernelIdeal.iter X st0 32).flag (Cert.Proof.KernelIdeal.iter X st0 32).cap X.x6 (ix1 b)
      = R_main_v38 (ref s0 32) (ref s0 32).main_v13_0 (ix1 b) := by
  rw [Ker.p46, Ref.obj_apply, uap_eq hS hR h0, cup_eq hS hR]
  exact zero_sub _

end

/-- The states go together at the start. -/
theorem start_rel {X : Inp} {s0 : RS} (hS : Same X s0) (p : Vec Ideal Cert.KernelIdeal.S32x128 .f32) (q u : Vec Ideal Cert.KernelIdeal.S32x128 .i32)
    (hx : ∀ (b : Fin 128) (v : Fin 64) (c : Fin 8), X.x1 (ix3 b v c) = b5 0 s0 (ix3 b v c))
    (hc : ∀ (b : Fin 128) (v : Fin 64) (d : Fin 4), s0.main_v13_20 (ix3 b v d) = s0.main_v13_0 (ix3 b v ⟨3 + d.1, by omega⟩))
    (ha : ∀ (b : Fin 128) (v : Fin 64), s0.main_v13_21 (ix2 b v) = 0#32) :
    Rel (Cert.Proof.KernelIdeal.start X p q u) s0 := by
  have enc : ∀ (b : Fin 128) (v : Fin 64) (h : Fin 128),
      Cert.KernelIdeal.Gen.k0_pay27 X.x1 X.x9 X.x10 (ix2 ⟨b.1 * 64 + v.1, by omega⟩ h) = b9 0 s0 (ix3 b v h) := fun b v h => by
    rw [Ker.p27, Ref.enc_apply, hS.ws, hS.bs]
    have e1 : (b.1 * 64 + v.1) / 64 = b.1 := by omega
    have e2 : (b.1 * 64 + v.1) % 64 = v.1 := by omega
    simp only [e1, e2, Fin.eta, hx]
  refine ⟨fun d b v => ?_, fun b v => Or.inl (ha b v), fun b v => ?_, fun b v h => ?_, fun b v h => ?_, fun b v h => ?_⟩
  · exact (congrFun (Ker.p33 X.x6) _).trans ((hS.cap0 d b v).trans (hc b v d).symm)
  · rw [ha, sf_zero]; exact Ker.p35 b v
  · refine (Ker.p28 _ _ _ _ b v h _).trans ?_
    rw [Ref.key_apply, hS.wk, hS.bk]
    simp only [enc]
  · refine (Ker.p29 _ _ _ _ b v h _).trans ?_
    rw [Ref.val_apply, hS.wv, hS.bv]
    simp only [enc]
  · refine (Ker.p31 _ _ _ _ b v h).trans ?_
    rw [Ref.ptr_apply, hS.w1]
    simp only [enc]

end Cert.Proof.Results

end
-- ==== Proof.KerValue.lean ====
/-
  What the kernel's run leaves: each operand block is its whole array, which the host's first operations make of the
  arguments; each result is read off the state after the last trip.
-/
module

public import proofs.«01_k».proof.Proof.Results
public import proofs.«01_k».proof.Proof.KernelIdealFrame
public import Idealize.ShloMosaic.Lib.Pipeline.Value
public import Idealize.ShloMosaic.Lib.Pipeline.ValueKit
public import Idealize.ShloMosaic.Lib.StableHlo.Run
public import Idealize.ShloMosaic.Lib.Pointwise

@[expose] public section

set_option maxRecDepth 16384

noncomputable section

namespace Cert.Proof.KerValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! Each operand block is its whole array. -/

theorem iblk_0 (t : Fin cfg0.N) : iblk m c 0 t = V m c main_v1 := by
  funext y
  unfold iblk
  blk_simp
  refine congrArg _ (funext fun a => Fin.ext ?_)
  have h : ∀ (t : Fin cfg0.N) (a), win0_0.index t a = 0 := by decide +kernel
  blk_simp [h]

theorem iblk_1 (t : Fin cfg0.N) : iblk m c 1 t = V m c main_v4 := by
  funext y
  unfold iblk
  blk_simp
  refine congrArg _ (funext fun a => Fin.ext ?_)
  have h : ∀ (t : Fin cfg0.N) (a), win0_1.index t a = 0 := by decide +kernel
  blk_simp [h]

theorem iblk_2 (t : Fin cfg0.N) : iblk m c 2 t = V m c main_v8 := by
  funext y
  unfold iblk
  blk_simp
  refine congrArg _ (funext fun a => Fin.ext ?_)
  have h : ∀ (t : Fin cfg0.N) (a), win0_2.index t a = 0 := by decide +kernel
  blk_simp [h]

theorem iblk_3 (t : Fin cfg0.N) : iblk m c 3 t = V m c main_v9 := by
  funext y
  unfold iblk
  blk_simp
  refine congrArg _ (funext fun a => Fin.ext ?_)
  have h : ∀ (t : Fin cfg0.N) (a), win0_3.index t a = 0 := by decide +kernel
  blk_simp [h]

theorem iblk_4 (t : Fin cfg0.N) : iblk m c 4 t = V m c main_v11 := by
  funext y
  unfold iblk
  blk_simp
  refine congrArg _ (funext fun a => Fin.ext ?_)
  have h : ∀ (t : Fin cfg0.N) (a), win0_4.index t a = 0 := by decide +kernel
  blk_simp [h]

theorem iblk_5 (t : Fin cfg0.N) : iblk m c 5 t = V m c main_v13 := by
  funext y
  unfold iblk
  blk_simp
  refine congrArg _ (funext fun a => Fin.ext ?_)
  have h : ∀ (t : Fin cfg0.N) (a), win0_5.index t a = 0 := by decide +kernel
  blk_simp [h]

theorem iblk_6 (t : Fin cfg0.N) : iblk m c 6 t = V m c main_v6 := by
  funext y
  unfold iblk
  blk_simp
  refine congrArg _ (funext fun a => Fin.ext ?_)
  have h : ∀ (t : Fin cfg0.N) (a), win0_6.index t a = 0 := by decide +kernel
  blk_simp [h]

theorem iblk_7 (t : Fin cfg0.N) : iblk m c 7 t = m ((c : Thread nD τ).loc main_arg4) := by
  refine Eq.trans ?_ (V_main_arg4 m c)
  funext y
  unfold iblk
  blk_simp
  refine congrArg _ (funext fun a => Fin.ext ?_)
  have h : ∀ (t : Fin cfg0.N) (a), win0_7.index t a = 0 := by decide +kernel
  blk_simp [h]

theorem iblk_8 (t : Fin cfg0.N) : iblk m c 8 t = m ((c : Thread nD τ).loc main_arg5) := by
  refine Eq.trans ?_ (V_main_arg5 m c)
  funext y
  unfold iblk
  blk_simp
  refine congrArg _ (funext fun a => Fin.ext ?_)
  have h : ∀ (t : Fin cfg0.N) (a), win0_8.index t a = 0 := by decide +kernel
  blk_simp [h]

theorem iblk_9 (t : Fin cfg0.N) : iblk m c 9 t = m ((c : Thread nD τ).loc main_arg6) := by
  refine Eq.trans ?_ (V_main_arg6 m c)
  funext y
  unfold iblk
  blk_simp
  refine congrArg _ (funext fun a => Fin.ext ?_)
  have h : ∀ (t : Fin cfg0.N) (a), win0_9.index t a = 0 := by decide +kernel
  blk_simp [h]

theorem iblk_10 (t : Fin cfg0.N) : iblk m c 10 t = m ((c : Thread nD τ).loc main_arg7) := by
  refine Eq.trans ?_ (V_main_arg7 m c)
  funext y
  unfold iblk
  blk_simp
  refine congrArg _ (funext fun a => Fin.ext ?_)
  have h : ∀ (t : Fin cfg0.N) (a), win0_10.index t a = 0 := by decide +kernel
  blk_simp [h]

theorem iblk_11 (t : Fin cfg0.N) : iblk m c 11 t = m ((c : Thread nD τ).loc main_arg8) := by
  refine Eq.trans ?_ (V_main_arg8 m c)
  funext y
  unfold iblk
  blk_simp
  refine congrArg _ (funext fun a => Fin.ext ?_)
  have h : ∀ (t : Fin cfg0.N) (a), win0_11.index t a = 0 := by decide +kernel
  blk_simp [h]

theorem iblk_12 (t : Fin cfg0.N) : iblk m c 12 t = m ((c : Thread nD τ).loc main_arg9) := by
  refine Eq.trans ?_ (V_main_arg9 m c)
  funext y
  unfold iblk
  blk_simp
  refine congrArg _ (funext fun a => Fin.ext ?_)
  have h : ∀ (t : Fin cfg0.N) (a), win0_12.index t a = 0 := by decide +kernel
  blk_simp [h]

theorem iblk_13 (t : Fin cfg0.N) : iblk m c 13 t = m ((c : Thread nD τ).loc main_arg10) := by
  refine Eq.trans ?_ (V_main_arg10 m c)
  funext y
  unfold iblk
  blk_simp
  refine congrArg _ (funext fun a => Fin.ext ?_)
  have h : ∀ (t : Fin cfg0.N) (a), win0_13.index t a = 0 := by decide +kernel
  blk_simp [h]

theorem iblk_14 (t : Fin cfg0.N) : iblk m c 14 t = m ((c : Thread nD τ).loc main_arg11) := by
  refine Eq.trans ?_ (V_main_arg11 m c)
  funext y
  unfold iblk
  blk_simp
  refine congrArg _ (funext fun a => Fin.ext ?_)
  have h : ∀ (t : Fin cfg0.N) (a), win0_14.index t a = 0 := by decide +kernel
  blk_simp [h]

theorem iblk_15 (t : Fin cfg0.N) : iblk m c 15 t = m ((c : Thread nD τ).loc main_arg12) := by
  refine Eq.trans ?_ (V_main_arg12 m c)
  funext y
  unfold iblk
  blk_simp
  refine congrArg _ (funext fun a => Fin.ext ?_)
  have h : ∀ (t : Fin cfg0.N) (a), win0_15.index t a = 0 := by decide +kernel
  blk_simp [h]

theorem iblk_16 (t : Fin cfg0.N) : iblk m c 16 t = m ((c : Thread nD τ).loc main_arg13) := by
  refine Eq.trans ?_ (V_main_arg13 m c)
  funext y
  unfold iblk
  blk_simp
  refine congrArg _ (funext fun a => Fin.ext ?_)
  have h : ∀ (t : Fin cfg0.N) (a), win0_16.index t a = 0 := by decide +kernel
  blk_simp [h]

theorem iblk_17 (t : Fin cfg0.N) : iblk m c 17 t = m ((c : Thread nD τ).loc main_arg14) := by
  refine Eq.trans ?_ (V_main_arg14 m c)
  funext y
  unfold iblk
  blk_simp
  refine congrArg _ (funext fun a => Fin.ext ?_)
  have h : ∀ (t : Fin cfg0.N) (a), win0_17.index t a = 0 := by decide +kernel
  blk_simp [h]

theorem iblk_18 (t : Fin cfg0.N) : iblk m c 18 t = m ((c : Thread nD τ).loc main_arg15) := by
  refine Eq.trans ?_ (V_main_arg15 m c)
  funext y
  unfold iblk
  blk_simp
  refine congrArg _ (funext fun a => Fin.ext ?_)
  have h : ∀ (t : Fin cfg0.N) (a), win0_18.index t a = 0 := by decide +kernel
  blk_simp [h]

/-! What the host's first operations make of the arguments. -/

theorem V_v1 : (V m c main_v1 : FVec Ideal S128x64x8 .f32) = concatenate S128x64x8 2 [⟨S128x64x7, (m ((c : Thread nD τ).loc main_arg1) : FVec Ideal S128x64x7 .f32)⟩, ⟨S128x64x1, broadcastInDim S128x64x1 ![] bcast_S_S128x64x1 (constant (F := Ideal) S_ .f32 0x00000000#32)⟩] concatenates_S128x64x7_S128x64x1_S128x64x8_d2 := by
  unfold V V0 hostOps0
  simp only [List.flatten_cons, List.flatten_nil, List.append_nil]
  after_results

theorem V_v4 : (V m c main_v4 : FVec Ideal S32x128x8 .f32) = concatenate S32x128x8 2 [⟨S32x128x6, transpose S32x128x6 [1, 0, 2] (m ((c : Thread nD τ).loc main_arg0) : FVec Ideal S128x32x6 .f32) transposes_S128x32x6_S32x128x6_1_0_2⟩, ⟨S32x128x2, broadcastInDim S32x128x2 ![] bcast_S_S32x128x2 (constant (F := Ideal) S_ .f32 0x00000000#32)⟩] concatenates_S32x128x6_S32x128x2_S32x128x8_d2 := by
  unfold V V0 hostOps0
  simp only [List.flatten_cons, List.flatten_nil, List.append_nil]
  after_results

theorem V_v6 : (V m c main_v6 : FVec Ideal S8x128 .f32) = concatenate S8x128 0 [⟨S6x128, (m ((c : Thread nD τ).loc main_arg3) : FVec Ideal S6x128 .f32)⟩, ⟨S2x128, broadcastInDim S2x128 ![] bcast_S_S2x128 (constant (F := Ideal) S_ .f32 0x00000000#32)⟩] concatenates_S6x128_S2x128_S8x128_d0 := by
  unfold V V0 hostOps0
  simp only [List.flatten_cons, List.flatten_nil, List.append_nil]
  after_results

theorem V_v8 : (V m c main_v8 : FVec Ideal S32x128x64 .f32) = uitofp (F := Ideal) .f32 (transpose S32x128x64 [1, 0, 2] (m ((c : Thread nD τ).loc main_arg2) : IVec S128x32x64 1) transposes_S128x32x64_S32x128x64_1_0_2) := by
  unfold V V0 hostOps0
  simp only [List.flatten_cons, List.flatten_nil, List.append_nil]
  after_results

theorem V_v9 : (V m c main_v9 : FVec Ideal S32x128x4 .f32) = extractStridedSlice S32x128x4 ![0, 0, 2] (transpose S32x128x6 [1, 0, 2] (m ((c : Thread nD τ).loc main_arg0) : FVec Ideal S128x32x6 .f32) transposes_S128x32x6_S32x128x6_1_0_2) slices_S32x128x6_S32x128x4_0_0_2 := by
  unfold V V0 hostOps0
  simp only [List.flatten_cons, List.flatten_nil, List.append_nil]
  after_results

theorem V_v11 : (V m c main_v11 : FVec Ideal S3x128x64 .f32) = transpose S3x128x64 [2, 0, 1] (extractStridedSlice S128x64x3 ![0, 0, 0] (m ((c : Thread nD τ).loc main_arg1) : FVec Ideal S128x64x7 .f32) slices_S128x64x7_S128x64x3_0_0_0) transposes_S128x64x3_S3x128x64_2_0_1 := by
  unfold V V0 hostOps0
  simp only [List.flatten_cons, List.flatten_nil, List.append_nil]
  after_results

theorem V_v13 : (V m c main_v13 : FVec Ideal S4x128x64 .f32) = transpose S4x128x64 [2, 0, 1] (extractStridedSlice S128x64x4 ![0, 0, 3] (m ((c : Thread nD τ).loc main_arg1) : FVec Ideal S128x64x7 .f32) slices_S128x64x7_S128x64x4_0_0_3) transposes_S128x64x4_S4x128x64_2_0_1 := by
  unfold V V0 hostOps0
  simp only [List.flatten_cons, List.flatten_nil, List.append_nil]
  after_results

/-! What the host's last operations make of the four result arrays. -/

theorem tail_v16 (W : Valuation τ sig (Elt Ideal)) : (StableHlo.after (List.flatten [hostOps1]) W (Proc.devRef .tc main_v16) : FVec Ideal S128 .f32)
    = shapeCast S128 (extractStridedSlice S128x1 ![0, 0] (W (Proc.devRef .tc main_v14_3) : FVec Ideal S128x4 .f32) slices_S128x4_S128x1_0_0) shapeCasts_S128x1_S128 := by
  unfold hostOps1
  simp only [List.flatten_cons, List.flatten_nil, List.append_nil]
  after_results
  rfl

theorem tail_v19 (W : Valuation τ sig (Elt Ideal)) : (StableHlo.after (List.flatten [hostOps1]) W (Proc.devRef .tc main_v19) : FVec Ideal S128 .f32)
    = shapeCast S128 (extractStridedSlice S128x1 ![0, 1] (W (Proc.devRef .tc main_v14_3) : FVec Ideal S128x4 .f32) slices_S128x4_S128x1_0_1) shapeCasts_S128x1_S128 := by
  unfold hostOps1
  simp only [List.flatten_cons, List.flatten_nil, List.append_nil]
  after_results
  rfl

theorem tail_v21 (W : Valuation τ sig (Elt Ideal)) : (StableHlo.after (List.flatten [hostOps1]) W (Proc.devRef .tc main_v21) : FVec Ideal S128 .f32)
    = shapeCast S128 (extractStridedSlice S128x1 ![0, 2] (W (Proc.devRef .tc main_v14_3) : FVec Ideal S128x4 .f32) slices_S128x4_S128x1_0_2) shapeCasts_S128x1_S128 := by
  unfold hostOps1
  simp only [List.flatten_cons, List.flatten_nil, List.append_nil]
  after_results
  rfl

theorem tail_v23 (W : Valuation τ sig (Elt Ideal)) : (StableHlo.after (List.flatten [hostOps1]) W (Proc.devRef .tc main_v23) : FVec Ideal S128 .f32)
    = shapeCast S128 (extractStridedSlice S128x1 ![0, 3] (W (Proc.devRef .tc main_v14_3) : FVec Ideal S128x4 .f32) slices_S128x4_S128x1_0_3) shapeCasts_S128x1_S128 := by
  unfold hostOps1
  simp only [List.flatten_cons, List.flatten_nil, List.append_nil]
  after_results
  rfl

theorem tail_v17 (W : Valuation τ sig (Elt Ideal)) : (StableHlo.after (List.flatten [hostOps1]) W (Proc.devRef .tc main_v17) : FVec Ideal S32x128 .f32)
    = transpose S32x128 [1, 0] (W (Proc.devRef .tc main_v14_0) : FVec Ideal S128x32 .f32) transposes_S128x32_S32x128_1_0 := by
  unfold hostOps1
  simp only [List.flatten_cons, List.flatten_nil, List.append_nil]
  after_results

/-! The result arrays after the run. -/

theorem arr_19 : (KernelIdeal.dats m 0 c).arrAt 19 cfg0.N = KernelIdeal.outProbs (KernelIdeal.endSt m c t0_0) := by
  refine (KernelIdeal.dats m 0 c).arrAt_eq_of_after_last 19 t0_0 (by decide +kernel) _ fun j => ?_
  rw [KernelIdeal.after_19]
  rfl

theorem arr_20 : (KernelIdeal.dats m 0 c).arrAt 20 cfg0.N = KernelIdeal.outIdx (KernelIdeal.endSt m c t0_0) := by
  refine (KernelIdeal.dats m 0 c).arrAt_eq_of_after_last 20 t0_0 (by decide +kernel) _ fun j => ?_
  rw [KernelIdeal.after_20]
  rfl

theorem arr_21 : (KernelIdeal.dats m 0 c).arrAt 21 cfg0.N = KernelIdeal.outUa (KernelIdeal.endSt m c t0_0) := by
  refine (KernelIdeal.dats m 0 c).arrAt_eq_of_after_last 21 t0_0 (by decide +kernel) _ fun j => ?_
  rw [KernelIdeal.after_21]
  rfl

theorem arr_22 : (KernelIdeal.dats m 0 c).arrAt 22 cfg0.N = KernelIdeal.outProps (KernelIdeal.blocks m c t0_0) (KernelIdeal.endSt m c t0_0) := by
  refine (KernelIdeal.dats m 0 c).arrAt_eq_of_after_last 22 t0_0 (by decide +kernel) _ fun j => ?_
  rw [KernelIdeal.after_22]
  rfl

end Cert.Proof.KerValue

end
-- ==== Proof.KerStart.lean ====
/-
  The arrays the host makes for the kernel, element by element, against the reference's first state.
-/
module

public import proofs.«01_k».proof.Proof.KerValue

@[expose] public section

set_option maxRecDepth 16384

noncomputable section

namespace Cert.Proof.KerStart

open Cert.KernelIdeal Cert.KernelIdeal.Gen
open Idealize.ShloMosaic

/-- A server's features as the kernel gets them: seven of the argument's columns, then zero. -/
theorem feat (x : FVec Ideal S128x64x7 .f32) (b : Fin 128) (v : Fin 64) (k : Fin 8) :
    concatenate S128x64x8 2 [⟨S128x64x7, x⟩, ⟨S128x64x1, broadcastInDim S128x64x1 ![] bcast_S_S128x64x1 (constant (F := Ideal) S_ .f32 0x00000000#32)⟩] concatenates_S128x64x7_S128x64x1_S128x64x8_d2 (ix3 b v k) = if h : k.1 < 7 then x (ix3 b v ⟨k.1, h⟩) else 0 := by
  pointwise

/-- A user's features: six columns, then zeros. -/
theorem user (x : FVec Ideal S128x32x6 .f32) (t : Fin 32) (b : Fin 128) (k : Fin 8) :
    concatenate S32x128x8 2 [⟨S32x128x6, transpose S32x128x6 [1, 0, 2] x transposes_S128x32x6_S32x128x6_1_0_2⟩, ⟨S32x128x2, broadcastInDim S32x128x2 ![] bcast_S_S32x128x2 (constant (F := Ideal) S_ .f32 0x00000000#32)⟩] concatenates_S32x128x6_S32x128x2_S32x128x8_d2 (ix3 t b k) = if h : k.1 < 6 then x (ix3 b t ⟨k.1, h⟩) else 0 := by
  pointwise

theorem wu (x : FVec Ideal S6x128 .f32) (k : Fin 8) (h : Fin 128) :
    concatenate S8x128 0 [⟨S6x128, x⟩, ⟨S2x128, broadcastInDim S2x128 ![] bcast_S_S2x128 (constant (F := Ideal) S_ .f32 0x00000000#32)⟩] concatenates_S6x128_S2x128_S8x128_d0 (ix2 k h) = if h' : k.1 < 6 then x (ix2 ⟨k.1, h'⟩ h) else 0 := by
  pointwise

theorem mask (x : IVec S128x32x64 1) (t : Fin 32) (b : Fin 128) (v : Fin 64) :
    uitofp (F := Ideal) .f32 (transpose S32x128x64 [1, 0, 2] x transposes_S128x32x64_S32x128x64_1_0_2) (ix3 t b v) = FloatOps.uitofp (F := Ideal) FTy.f32 (x (ix3 b t v)) := by
  pointwise

theorem work (x : FVec Ideal S128x32x6 .f32) (t : Fin 32) (b : Fin 128) (d : Fin 4) :
    extractStridedSlice S32x128x4 ![0, 0, 2] (transpose S32x128x6 [1, 0, 2] x transposes_S128x32x6_S32x128x6_1_0_2) slices_S32x128x6_S32x128x4_0_0_2 (ix3 t b d) = x (ix3 b t ⟨2 + d.1, by omega⟩) := by
  pointwise

theorem fixed (x : FVec Ideal S128x64x7 .f32) (k : Fin 3) (b : Fin 128) (v : Fin 64) :
    transpose S3x128x64 [2, 0, 1] (extractStridedSlice S128x64x3 ![0, 0, 0] x slices_S128x64x7_S128x64x3_0_0_0) transposes_S128x64x3_S3x128x64_2_0_1 (ix3 k b v) = x (ix3 b v ⟨k.1, by omega⟩) := by
  pointwise

theorem cap (x : FVec Ideal S128x64x7 .f32) (d : Fin 4) (b : Fin 128) (v : Fin 64) :
    transpose S4x128x64 [2, 0, 1] (extractStridedSlice S128x64x4 ![0, 0, 3] x slices_S128x64x7_S128x64x4_0_0_3) transposes_S128x64x4_S4x128x64_2_0_1 (ix3 d b v) = x (ix3 b v ⟨3 + d.1, by omega⟩) := by
  pointwise

theorem col0 (x : FVec Ideal S128x4 .f32) (b : Fin 128) :
    shapeCast S128 (extractStridedSlice S128x1 ![0, 0] x slices_S128x4_S128x1_0_0) shapeCasts_S128x1_S128 (ix1 b) = x (ix2 b 0) := by
  pointwise

theorem col1 (x : FVec Ideal S128x4 .f32) (b : Fin 128) :
    shapeCast S128 (extractStridedSlice S128x1 ![0, 1] x slices_S128x4_S128x1_0_1) shapeCasts_S128x1_S128 (ix1 b) = x (ix2 b 1) := by
  pointwise

theorem col2 (x : FVec Ideal S128x4 .f32) (b : Fin 128) :
    shapeCast S128 (extractStridedSlice S128x1 ![0, 2] x slices_S128x4_S128x1_0_2) shapeCasts_S128x1_S128 (ix1 b) = x (ix2 b 2) := by
  pointwise

theorem col3 (x : FVec Ideal S128x4 .f32) (b : Fin 128) :
    shapeCast S128 (extractStridedSlice S128x1 ![0, 3] x slices_S128x4_S128x1_0_3) shapeCasts_S128x1_S128 (ix1 b) = x (ix2 b 3) := by
  pointwise

theorem probs (x : FVec Ideal S128x32 .f32) (i : Fin 32) (b : Fin 128) :
    transpose S32x128 [1, 0] x transposes_S128x32_S32x128_1_0 (ix2 i b) = x (ix2 b i) := by
  pointwise

/-- A flag as a number is positive exactly where it is set. -/
theorem flag_pos (w : BitVec 1) : (0 : EReal) < FloatOps.uitofp (F := Ideal) FTy.f32 w ↔ w = 1#1 := by
  rcases (by revert w; decide : ∀ w : BitVec 1, w = 0#1 ∨ w = 1#1) w with h | h <;> subst h
  · refine ⟨fun e => absurd e ?_, fun e => absurd e (by decide)⟩
    show ¬ (0 : EReal) < (((0#1 : BitVec 1).toNat : ℝ) : EReal)
    simp
  · refine ⟨fun _ => rfl, fun _ => ?_⟩
    show (0 : EReal) < (((1#1 : BitVec 1).toNat : ℝ) : EReal)
    simp

/-- Eight terms of which the last two vanish. -/
theorem sum_pad (f : Fin 6 → EReal) (g : Fin 6 → EReal) :
    ∑ k : Fin 8, (if h : k.1 < 6 then f ⟨k.1, h⟩ else 0) * (if h : k.1 < 6 then g ⟨k.1, h⟩ else 0) = ∑ k : Fin 6, f k * g k := by
  rw [Fin.sum_univ_castSucc, Fin.sum_univ_castSucc]
  simp

section
open Cert.Proof.Ref Cert.Proof.Match Cert.Proof.Results

variable (X : Inp) (a0 : FVec Ideal S128x32x6 .f32) (a1 : FVec Ideal S128x64x7 .f32) (a2 : IVec S128x32x64 1)
  (a3 : FVec Ideal S6x128 .f32) (a4 : FVec Ideal S128 .f32)

/-- The reference's first state. -/
abbrev first : RS :=
  Cert.ReferenceIdeal.Step.init (F := Ideal) a1 X.x9 X.x10 a2 X.x11 X.x12 X.x13 X.x14 X.x15 X.x16 X.x17 X.x18 X.x19 a0 a3 a4

variable
  (h1 : X.x1 = concatenate S128x64x8 2 [⟨S128x64x7, a1⟩, ⟨S128x64x1, broadcastInDim S128x64x1 ![] bcast_S_S128x64x1 (constant (F := Ideal) S_ .f32 0x00000000#32)⟩] concatenates_S128x64x7_S128x64x1_S128x64x8_d2)
  (h2 : X.x2 = concatenate S32x128x8 2 [⟨S32x128x6, transpose S32x128x6 [1, 0, 2] a0 transposes_S128x32x6_S32x128x6_1_0_2⟩, ⟨S32x128x2, broadcastInDim S32x128x2 ![] bcast_S_S32x128x2 (constant (F := Ideal) S_ .f32 0x00000000#32)⟩] concatenates_S32x128x6_S32x128x2_S32x128x8_d2)
  (h3 : X.x3 = uitofp (F := Ideal) .f32 (transpose S32x128x64 [1, 0, 2] a2 transposes_S128x32x64_S32x128x64_1_0_2))
  (h4 : X.x4 = extractStridedSlice S32x128x4 ![0, 0, 2] (transpose S32x128x6 [1, 0, 2] a0 transposes_S128x32x6_S32x128x6_1_0_2) slices_S32x128x6_S32x128x4_0_0_2)
  (h5 : X.x5 = transpose S3x128x64 [2, 0, 1] (extractStridedSlice S128x64x3 ![0, 0, 0] a1 slices_S128x64x7_S128x64x3_0_0_0) transposes_S128x64x3_S3x128x64_2_0_1)
  (h6 : X.x6 = transpose S4x128x64 [2, 0, 1] (extractStridedSlice S128x64x4 ![0, 0, 3] a1 slices_S128x64x7_S128x64x4_0_0_3) transposes_S128x64x4_S4x128x64_2_0_1)
  (h7 : X.x7 = concatenate S8x128 0 [⟨S6x128, a3⟩, ⟨S2x128, broadcastInDim S2x128 ![] bcast_S_S2x128 (constant (F := Ideal) S_ .f32 0x00000000#32)⟩] concatenates_S6x128_S2x128_S8x128_d0)
  (h8 : X.x8 = a4)
  (hv : ∀ k : Fin 128, ∃ r : ℝ, X.x19 (ix2 k 0) = (r : EReal))

include h2 h3 h4 h5 h6 h7 h8 hv in
/-- The operands say what the reference's first state says. -/
theorem same : Same X (first X a0 a1 a2 a3 a4) where
  work t b d := by rw [h4]; exact work a0 t b d
  mask t b v := by rw [h3]; exact (iff_of_eq (congrArg ((0 : EReal) < ·) (mask a2 t b v))).trans (flag_pos _)
  fixed k b v := by rw [h5]; exact fixed a1 k b v
  cap0 d b v := by rw [h6]; exact cap a1 d b v
  query t b h := by
    refine (Ker.p32 _ _ _ t b h _ _).trans ?_
    refine congrArg (· + X.x12 (ix1 h)) (Finset.sum_congr rfl fun k _ => congrArg (· * X.x11 (ix2 k h)) ?_)
    refine Eq.trans ?_ (Ref.uenc_apply a0 a1 a3 a4 b t k).symm
    rw [h2, h7, h8]
    refine congrArg (· + a4 (ix1 k)) ?_
    refine Eq.trans (Finset.sum_congr rfl fun y _ => congrArg₂ (· * ·) (user a0 t b y) (wu a3 y k)) ?_
    exact sum_pad (fun y => a0 (ix3 b t y)) (fun y => a3 (ix2 y k))
  ws := rfl
  bs := rfl
  wk := rfl
  bk := rfl
  wv := rfl
  bv := rfl
  w1 := rfl
  w2 := rfl
  vt := rfl
  fin := hv

include h1 h2 h3 h4 h5 h6 h7 h8 hv in
/-- The scratch before the first trip is what the reference's first state determines. -/
theorem rel (p : Vec Ideal S32x128 .f32) (q u : Vec Ideal S32x128 .i32) :
    Match.Rel (KernelIdeal.start X p q u) (first X a0 a1 a2 a3 a4) := by
  refine start_rel (same X a0 a1 a2 a3 a4 h2 h3 h4 h5 h6 h7 h8 hv) p q u (fun b v k => ?_) (fun b v d => Ref.cap0_apply a0 a1 a3 a4 b v d) (fun b v => Ref.alloc0_apply b v)
  rw [h1, Ref.feat_apply]
  refine (feat a1 b v k).trans ?_
  by_cases hk : k.1 < 7
  · rw [dif_pos hk]
    by_cases hk3 : k.1 < 3
    · rw [dif_pos hk3]
      rfl
    · rw [dif_neg hk3, dif_pos (by omega)]
      refine Eq.trans ?_ (Ref.cap0_apply a0 a1 a3 a4 b v ⟨k.1 - 3, by omega⟩).symm
      exact congrArg a1 (Ref.ix3_congr rfl rfl (by show k.1 = 3 + (k.1 - 3); omega))
  · rw [dif_neg hk, dif_neg (by omega), dif_neg (by omega)]
    refine Eq.trans ?_ (congrArg Arith.sf (Ref.alloc0_apply b v)).symm
    exact Arith.sf_zero.symm

end

end Cert.Proof.KerStart

end
-- ==== Proof.RefValue.lean ====
/-
  The reference's run, its states counted by `Results.ref`.
-/
module

public import proofs.«01_k».proof.Proof.Results
public import proofs.«01_k».proof.Proof.Reference
public import proofs.«01_k».proof.Defs
public import Idealize.ShloMosaic.Lib.Quiescent
public import Idealize.ShloMosaic.Lib.Pointwise

@[expose] public section

set_option maxRecDepth 16384

noncomputable section

namespace Cert.Proof.RefValue

open Idealize.ShloMosaic

theorem bcast_S_S128x1 : Cert.Pre_finite_pointer.S_.BroadcastsInDim Cert.Pre_finite_pointer.S128x1 (![] : Fin 0 → Fin Cert.Pre_finite_pointer.S128x1.rank) := by decide
theorem reducesTo_S128x1_S_d0_1 : Cert.Pre_finite_pointer.S128x1.ReducesTo [0, 1] Cert.Pre_finite_pointer.S_ := by decide
theorem h_S_ : 0 < Cert.Pre_finite_pointer.S_.numel := by decide

/-- What the condition's operations ask of their shapes. -/
instance preFacts : Cert.Pre_finite_pointer.Facts := ⟨bcast_S_S128x1, reducesTo_S128x1_S_d0_1, h_S_⟩

/-- The reference runs, keeps its arguments and ends with its counters at zero. -/
theorem frame : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.StepRun.run_iter (F := Ideal) m ρ (fun c => Results.ref (Cert.ReferenceIdeal.StepRun.initState m c)) (fun _ => rfl) (fun _ _ => rfl))

/-- The condition says that the pointer vector's entries are real numbers. -/
theorem finite (x0 : FVec Ideal Cert.Pre_finite_pointer.S128x32x6 .f32) (x1 x2 x3 x4 x5 x6 x7 x8 x9 x10 x11 x12 x13 x14) (x15 : FVec Ideal Cert.Pre_finite_pointer.S128x1 .f32)
    (h : Cert.Pre_finite_pointer.fn (F := Ideal) x0 x1 x2 x3 x4 x5 x6 x7 x8 x9 x10 x11 x12 x13 x14 x15 = fun _ => 1#1) (k : Fin 128) :
    ∃ r : ℝ, x15 (ix2 k 0) = (r : EReal) := by
  have h := congrFun h ix0
  unfold Cert.Pre_finite_pointer.fn at h
  pointwise at h
  have hk := of_decide_eq_true ((Arith.fold_and _ _).1 h (k, 0) (Finset.mem_univ _))
  rw [Arith.ofBits_top] at hk
  have hk : max (x15 (ix2 k 0) : EReal) (-(x15 (ix2 k 0) : EReal)) < ⊤ := hk
  generalize (x15 (ix2 k 0) : EReal) = x at hk ⊢
  induction x using EReal.rec with
  | bot => simp at hk
  | top => simp at hk
  | coe r => exact ⟨r, rfl⟩

end Cert.Proof.RefValue

end
-- ==== Proof.Final.lean ====
/-
  The kernel's run with its values, and the value claim: both programs end with the same seven results.
-/
module

public import proofs.«01_k».proof.Proof.KerStart
public import proofs.«01_k».proof.Proof.RefValue
public import Idealize.ShloMosaic.Lib.Claim

@[expose] public section

set_option maxRecDepth 16384

noncomputable section

namespace Cert.Proof.Final

open Cert.KernelIdeal Cert.KernelIdeal.Gen
open Idealize.ShloMosaic Idealize.ShloMosaic.TcCoe Idealize.SL.Sem
open Cert.Proof.Match Cert.Proof.Results Cert.Proof.KerValue Cert.Proof.KerStart
open Cert.ReferenceIdeal.Step (R_main_v20 R_main_v24 R_main_v36 R_main_v38)

section
variable (m : (ℓ : Loc nD τ sig) → Buf (Elt Ideal) ℓ) (ρ : Dev nD → PrngReg) (c : Dev nD)

/-- The kernel's operands. -/
abbrev ops : Inp := KernelIdeal.blocks m c t0_0

/-- The reference's first state on the kernel's arguments. -/
abbrev s0 : RS := first (ops m c) (m ((c : Thread nD τ).loc main_arg0)) (m ((c : Thread nD τ).loc main_arg1)) (m ((c : Thread nD τ).loc main_arg2))
  (m ((c : Thread nD τ).loc main_arg3)) (m ((c : Thread nD τ).loc main_arg4))

theorem arr_inj : Function.Injective (Pipeline.arrRef spec0) := by decide +kernel

/-- The four numbers per batch row, where the region left them. -/
theorem props : Pipeline.withArrays spec0 c (V0 m c) (fun w => (KernelIdeal.dats m 0 c).arrAt w cfg0.N) (Proc.devRef .tc main_v14_3)
    = KernelIdeal.outProps (ops m c) (KernelIdeal.endSt m c t0_0) :=
  (Pipeline.withArrays_arr spec0 arr_inj c (V0 m c) _ 22).trans (arr_22 m c)

theorem probsArr : Pipeline.withArrays spec0 c (V0 m c) (fun w => (KernelIdeal.dats m 0 c).arrAt w cfg0.N) (Proc.devRef .tc main_v14_0)
    = KernelIdeal.outProbs (KernelIdeal.endSt m c t0_0) :=
  (Pipeline.withArrays_arr spec0 arr_inj c (V0 m c) _ 19).trans (arr_19 m c)

variable (hv : ∀ k : Fin 128, ∃ r : ℝ, (m ((c : Thread nD τ).loc main_arg15) : FVec Ideal S128x1 .f32) (ix2 k 0) = (r : EReal))
include hv

theorem fin_ops (k : Fin 128) : ∃ r : ℝ, (ops m c).x19 (ix2 k 0) = (r : EReal) := by
  have e : (ops m c).x19 = m ((c : Thread nD τ).loc main_arg15) := iblk_18 m c t0_0
  rw [e]; exact hv k

theorem same0 : Same (ops m c) (s0 m c) :=
  same (ops m c) _ _ _ _ _ ((iblk_1 m c t0_0).trans (V_v4 m c)) ((iblk_2 m c t0_0).trans (V_v8 m c)) ((iblk_3 m c t0_0).trans (V_v9 m c))
    ((iblk_4 m c t0_0).trans (V_v11 m c)) ((iblk_5 m c t0_0).trans (V_v13 m c)) ((iblk_6 m c t0_0).trans (V_v6 m c)) (iblk_7 m c t0_0)
    (fin_ops m c hv)

/-- The state before the first trip. -/
abbrev st0 : St := KernelIdeal.start (ops m c) (fun _ => k0_pay26 (F := Ideal)) (fun _ => 0#32) (fun _ => 0#32)

theorem rel0 : Match.Rel (st0 m c) (s0 m c) :=
  rel (ops m c) _ _ _ _ _ ((iblk_0 m c t0_0).trans (V_v1 m c)) ((iblk_1 m c t0_0).trans (V_v4 m c)) ((iblk_2 m c t0_0).trans (V_v8 m c)) ((iblk_3 m c t0_0).trans (V_v9 m c))
    ((iblk_4 m c t0_0).trans (V_v11 m c)) ((iblk_5 m c t0_0).trans (V_v13 m c)) ((iblk_6 m c t0_0).trans (V_v6 m c)) (iblk_7 m c t0_0)
    (fin_ops m c hv) _ _ _

omit hv in
theorem acc0 (b : Fin 128) : (st0 m c).acc (ix1 b) = (0 : EReal) := Ker.p37 b

omit hv in
theorem end_eq : KernelIdeal.endSt m c t0_0 = KernelIdeal.iter (ops m c) (st0 m c) 32 := by
  show KernelIdeal.iter _ _ _ = _
  rw [KernelIdeal.trips_eq]

/-- The objective. -/
theorem v16 : Pipeline.afterTail₀ cfgs (KernelIdeal.dats m) 0 (V0 m) [hostOps1] c main_v16
    = R_main_v38 (ref (s0 m c) 32) (m ((c : Thread nD τ).loc main_arg1)) := by
  refine (tail_v16 _).trans ?_
  rw [props m c, end_eq]
  refine (funext fun y => ?_ : (_ : FVec Ideal S128 .f32) = _)
  obtain ⟨b, rfl⟩ : ∃ b, y = ix1 b := ⟨y 0, by funext a; fin_cases a; rfl⟩
  refine (col0 _ b).trans ?_
  refine (Ker.p1 _ _ _ _ b 0).trans ?_
  refine Eq.trans ?_ (obj_eq (same0 m c hv) (rel0 m c hv) (acc0 m c) b)
  rfl

theorem v19 : Pipeline.afterTail₀ cfgs (KernelIdeal.dats m) 0 (V0 m) [hostOps1] c main_v19
    = R_main_v20 (ref (s0 m c) 32) := by
  refine (tail_v19 _).trans ?_
  rw [props m c, end_eq]
  refine (funext fun y => ?_ : (_ : FVec Ideal S128 .f32) = _)
  obtain ⟨b, rfl⟩ : ∃ b, y = ix1 b := ⟨y 0, by funext a; fin_cases a; rfl⟩
  refine (col1 _ b).trans ?_
  refine (Ker.p1 _ _ _ _ b 1).trans ?_
  exact uap_eq (same0 m c hv) (rel0 m c hv) (acc0 m c) b

theorem v21 : Pipeline.afterTail₀ cfgs (KernelIdeal.dats m) 0 (V0 m) [hostOps1] c main_v21
    = R_main_v24 (ref (s0 m c) 32) := by
  refine (tail_v21 _).trans ?_
  rw [props m c, end_eq]
  refine (funext fun y => ?_ : (_ : FVec Ideal S128 .f32) = _)
  obtain ⟨b, rfl⟩ : ∃ b, y = ix1 b := ⟨y 0, by funext a; fin_cases a; rfl⟩
  refine (col2 _ b).trans ?_
  refine (Ker.p1 _ _ _ _ b 2).trans ?_
  exact sup_eq (same0 m c hv) (rel0 m c hv) b

theorem v23 : Pipeline.afterTail₀ cfgs (KernelIdeal.dats m) 0 (V0 m) [hostOps1] c main_v23
    = R_main_v36 (ref (s0 m c) 32) (m ((c : Thread nD τ).loc main_arg1)) := by
  refine (tail_v23 _).trans ?_
  rw [props m c, end_eq]
  refine (funext fun y => ?_ : (_ : FVec Ideal S128 .f32) = _)
  obtain ⟨b, rfl⟩ : ∃ b, y = ix1 b := ⟨y 0, by funext a; fin_cases a; rfl⟩
  refine (col3 _ b).trans ?_
  refine (Ker.p1 _ _ _ _ b 3).trans ?_
  refine Eq.trans ?_ ((cup_eq (same0 m c hv) (rel0 m c hv) b).trans ?_)
  · rfl
  · rw [ref_features]
    rfl

/-- The probabilities. -/
theorem v17 : Pipeline.afterTail₀ cfgs (KernelIdeal.dats m) 0 (V0 m) [hostOps1] c main_v17
    = (ref (s0 m c) 32).main_v13_23 := by
  refine (tail_v17 _).trans ?_
  rw [probsArr m c, end_eq]
  refine (funext fun y => ?_ : (_ : FVec Ideal S32x128 .f32) = _)
  obtain ⟨i, b, rfl⟩ : ∃ i b, y = ix2 i b := ⟨y 0, y 1, by funext a; fin_cases a <;> rfl⟩
  refine (probs _ i b).trans ?_
  refine (Ker.p2 _ b i).trans ?_
  exact (rows_eq (same0 m c hv) (rel0 m c hv) i b).2.1

/-- The chosen servers. -/
theorem v14_1 : (KernelIdeal.dats m 0 c).arrAt 20 cfg0.N = (ref (s0 m c) 32).main_v13_24 := by
  refine (arr_20 m c).trans ?_
  rw [end_eq]
  refine (funext fun y => ?_ : (_ : IVec S128x32 32) = _)
  obtain ⟨b, i, rfl⟩ : ∃ b i, y = ix2 b i := ⟨y 0, y 1, by funext a; fin_cases a <;> rfl⟩
  refine (Ker.p3 _ b i).trans ?_
  exact (rows_eq (same0 m c hv) (rel0 m c hv) i b).2.2

/-- The allocations. -/
theorem v14_2 : (KernelIdeal.dats m 0 c).arrAt 21 cfg0.N = (ref (s0 m c) 32).main_v13_22 := by
  refine (arr_21 m c).trans ?_
  rw [end_eq]
  refine (funext fun y => ?_ : (_ : IVec S128x32 32) = _)
  obtain ⟨b, i, rfl⟩ : ∃ b i, y = ix2 b i := ⟨y 0, y 1, by funext a; fin_cases a <;> rfl⟩
  refine (Ker.p4 _ b i).trans ?_
  exact (rows_eq (same0 m c hv) (rel0 m c hv) i b).1

end

/-- Equal arguments, equal first states. -/
theorem init_congr {x1 y1 : FVec Ideal S128x64x7 .f32} {x5 y5 : FVec Ideal S8x128 .f32} {x6 y6 : FVec Ideal S128 .f32} {x2 y2 : IVec S128x32x64 1} {x7 y7 : FVec Ideal S128x128 .f32} {x8 y8 : FVec Ideal S128 .f32} {x9 y9 : FVec Ideal S128x128 .f32} {x10 y10 : FVec Ideal S128 .f32} {x11 y11 : FVec Ideal S128x128 .f32} {x12 y12 : FVec Ideal S128 .f32} {x13 y13 : FVec Ideal S128x128 .f32} {x14 y14 : FVec Ideal S128x128 .f32} {x15 y15 : FVec Ideal S128x1 .f32} {x0 y0 : FVec Ideal S128x32x6 .f32} {x3 y3 : FVec Ideal S6x128 .f32} {x4 y4 : FVec Ideal S128 .f32}
    (e1 : x1 = y1) (e5 : x5 = y5) (e6 : x6 = y6) (e2 : x2 = y2) (e7 : x7 = y7) (e8 : x8 = y8) (e9 : x9 = y9) (e10 : x10 = y10) (e11 : x11 = y11) (e12 : x12 = y12) (e13 : x13 = y13) (e14 : x14 = y14) (e15 : x15 = y15) (e0 : x0 = y0) (e3 : x3 = y3) (e4 : x4 = y4) :
    Cert.ReferenceIdeal.Step.init (F := Ideal) x1 x5 x6 x2 x7 x8 x9 x10 x11 x12 x13 x14 x15 x0 x3 x4 = Cert.ReferenceIdeal.Step.init (F := Ideal) y1 y5 y6 y2 y7 y8 y9 y10 y11 y12 y13 y14 y15 y0 y3 y4 := by
  subst e1 e5 e6 e2 e7 e8 e9 e10 e11 e12 e13 e14 e15 e0 e3 e4
  rfl

/-- From agreeing arguments the reference starts at the state the kernel's operands determine. -/
theorem init_eq (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)
    (e0 : m' ((c.tc : Thread Cert.ReferenceIdeal.nD Cert.ReferenceIdeal.τ).loc Cert.ReferenceIdeal.main_arg0) = m ((c.tc : Thread nD τ).loc main_arg0)) (e1 : m' ((c.tc : Thread Cert.ReferenceIdeal.nD Cert.ReferenceIdeal.τ).loc Cert.ReferenceIdeal.main_arg1) = m ((c.tc : Thread nD τ).loc main_arg1)) (e2 : m' ((c.tc : Thread Cert.ReferenceIdeal.nD Cert.ReferenceIdeal.τ).loc Cert.ReferenceIdeal.main_arg2) = m ((c.tc : Thread nD τ).loc main_arg2)) (e3 : m' ((c.tc : Thread Cert.ReferenceIdeal.nD Cert.ReferenceIdeal.τ).loc Cert.ReferenceIdeal.main_arg3) = m ((c.tc : Thread nD τ).loc main_arg3)) (e4 : m' ((c.tc : Thread Cert.ReferenceIdeal.nD Cert.ReferenceIdeal.τ).loc Cert.ReferenceIdeal.main_arg4) = m ((c.tc : Thread nD τ).loc main_arg4)) (e5 : m' ((c.tc : Thread Cert.ReferenceIdeal.nD Cert.ReferenceIdeal.τ).loc Cert.ReferenceIdeal.main_arg5) = m ((c.tc : Thread nD τ).loc main_arg5)) (e6 : m' ((c.tc : Thread Cert.ReferenceIdeal.nD Cert.ReferenceIdeal.τ).loc Cert.ReferenceIdeal.main_arg6) = m ((c.tc : Thread nD τ).loc main_arg6)) (e7 : m' ((c.tc : Thread Cert.ReferenceIdeal.nD Cert.ReferenceIdeal.τ).loc Cert.ReferenceIdeal.main_arg7) = m ((c.tc : Thread nD τ).loc main_arg7)) (e8 : m' ((c.tc : Thread Cert.ReferenceIdeal.nD Cert.ReferenceIdeal.τ).loc Cert.ReferenceIdeal.main_arg8) = m ((c.tc : Thread nD τ).loc main_arg8)) (e9 : m' ((c.tc : Thread Cert.ReferenceIdeal.nD Cert.ReferenceIdeal.τ).loc Cert.ReferenceIdeal.main_arg9) = m ((c.tc : Thread nD τ).loc main_arg9)) (e10 : m' ((c.tc : Thread Cert.ReferenceIdeal.nD Cert.ReferenceIdeal.τ).loc Cert.ReferenceIdeal.main_arg10) = m ((c.tc : Thread nD τ).loc main_arg10)) (e11 : m' ((c.tc : Thread Cert.ReferenceIdeal.nD Cert.ReferenceIdeal.τ).loc Cert.ReferenceIdeal.main_arg11) = m ((c.tc : Thread nD τ).loc main_arg11)) (e12 : m' ((c.tc : Thread Cert.ReferenceIdeal.nD Cert.ReferenceIdeal.τ).loc Cert.ReferenceIdeal.main_arg12) = m ((c.tc : Thread nD τ).loc main_arg12)) (e13 : m' ((c.tc : Thread Cert.ReferenceIdeal.nD Cert.ReferenceIdeal.τ).loc Cert.ReferenceIdeal.main_arg13) = m ((c.tc : Thread nD τ).loc main_arg13)) (e14 : m' ((c.tc : Thread Cert.ReferenceIdeal.nD Cert.ReferenceIdeal.τ).loc Cert.ReferenceIdeal.main_arg14) = m ((c.tc : Thread nD τ).loc main_arg14)) (e15 : m' ((c.tc : Thread Cert.ReferenceIdeal.nD Cert.ReferenceIdeal.τ).loc Cert.ReferenceIdeal.main_arg15) = m ((c.tc : Thread nD τ).loc main_arg15)) :
    Cert.ReferenceIdeal.StepRun.initState m' c = s0 m c :=
  init_congr e1 (e5.trans (iblk_8 m c t0_0).symm) (e6.trans (iblk_9 m c t0_0).symm) e2 (e7.trans (iblk_10 m c t0_0).symm) (e8.trans (iblk_11 m c t0_0).symm) (e9.trans (iblk_12 m c t0_0).symm) (e10.trans (iblk_13 m c t0_0).symm) (e11.trans (iblk_14 m c t0_0).symm) (e12.trans (iblk_15 m c t0_0).symm) (e13.trans (iblk_16 m c t0_0).symm) (e14.trans (iblk_17 m c t0_0).symm) (e15.trans (iblk_18 m c t0_0).symm) e0 e3 e4

set_option maxHeartbeats 1000000 in
/-- The kernel's run: its seven results as the reference's operations make them, and its arguments unchanged. -/
theorem ker_run (m : (ℓ : Loc nD τ sig) → Buf (Elt Ideal) ℓ) (ρ : Dev nD → PrngReg)
    (hv : ∀ (c : Dev nD) (k : Fin 128), ∃ r : ℝ, (m ((c : Thread nD τ).loc main_arg15) : FVec Ideal S128x1 .f32) (ix2 k 0) = (r : EReal)) :
    θ_run (defs (F := Ideal)) (onTc (τ := τ) (main (F := Ideal))) ⟨m, fun _ => 0, ρ⟩ (fun r => ∀ c : Dev nD,
      r.2.mem ((c.tc : Thread nD τ).loc main_v16) = R_main_v38 (ref (s0 m c) 32) (m ((c : Thread nD τ).loc main_arg1))
      ∧ r.2.mem ((c.tc : Thread nD τ).loc main_v17) = (ref (s0 m c) 32).main_v13_23
      ∧ r.2.mem ((c.tc : Thread nD τ).loc main_v14_1) = (ref (s0 m c) 32).main_v13_24
      ∧ r.2.mem ((c.tc : Thread nD τ).loc main_v19) = R_main_v20 (ref (s0 m c) 32)
      ∧ r.2.mem ((c.tc : Thread nD τ).loc main_v21) = R_main_v24 (ref (s0 m c) 32)
      ∧ r.2.mem ((c.tc : Thread nD τ).loc main_v23) = R_main_v36 (ref (s0 m c) 32) (m ((c : Thread nD τ).loc main_arg1))
      ∧ r.2.mem ((c.tc : Thread nD τ).loc main_v14_2) = (ref (s0 m c) 32).main_v13_22
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15)) := by
  have hrun := θ_run_and (KernelIdeal.run_main (F := Ideal) m ρ)
    (Cert.KernelIdeal.Gen.frame_of m ρ (KernelIdeal.dats m) (KernelIdeal.A_eq m) (KernelIdeal.run_main m ρ))
  refine (θ_run _ _ _).mono (fun r h c => ?_) hrun
  have h1 := (h.1 c).1
  have h2 := (h.1 c).2
  refine ⟨?_, ?_, ?_, ?_, ?_, ?_, ?_, h.2 c⟩
  · exact (h2 main_v16 (Pipeline.mem_restRefs_of main_v16 (by decide) (by decide))).trans (v16 m c (hv c))
  · exact (h2 main_v17 (Pipeline.mem_restRefs_of main_v17 (by decide) (by decide))).trans (v17 m c (hv c))
  · exact (h1 20).trans (v14_1 m c (hv c))
  · exact (h2 main_v19 (Pipeline.mem_restRefs_of main_v19 (by decide) (by decide))).trans (v19 m c (hv c))
  · exact (h2 main_v21 (Pipeline.mem_restRefs_of main_v21 (by decide) (by decide))).trans (v21 m c (hv c))
  · exact (h2 main_v23 (Pipeline.mem_restRefs_of main_v23 (by decide) (by decide))).trans (v23 m c (hv c))
  · exact (h1 21).trans (v14_2 m c (hv c))

set_option maxHeartbeats 1000000 in
/-- Both programs end with the same seven results. -/
theorem algebraic : Cert.algebraic_KernelIdeal_ReferenceIdeal_pre_finite_pointer := by
  intro m ρ m' ρ' hpre hagree
  have hv : ∀ (c : Dev nD) (k : Fin 128), ∃ r : ℝ, (m ((c : Thread nD τ).loc main_arg15) : FVec Ideal S128x1 .f32) (ix2 k 0) = (r : EReal) :=
    fun c => RefValue.finite _ _ _ _ _ _ _ _ _ _ _ _ _ _ _ _ (hpre c)
  have hinit : ∀ c : Dev nD, Cert.ReferenceIdeal.StepRun.initState m' c = s0 m c := fun c => by
    obtain ⟨e0, e1, e2, e3, e4, e5, e6, e7, e8, e9, e10, e11, e12, e13, e14, e15⟩ := hagree c
    exact init_eq m m' c e0 e1 e2 e3 e4 e5 e6 e7 e8 e9 e10 e11 e12 e13 e14 e15
  refine ⟨fun c => R_main_v38 (ref (s0 m c) 32) (m ((c : Thread nD τ).loc main_arg1)), fun c => (ref (s0 m c) 32).main_v13_23,
    fun c => (ref (s0 m c) 32).main_v13_24, fun c => R_main_v20 (ref (s0 m c) 32), fun c => R_main_v24 (ref (s0 m c) 32),
    fun c => R_main_v36 (ref (s0 m c) 32) (m ((c : Thread nD τ).loc main_arg1)), fun c => (ref (s0 m c) 32).main_v13_22, ker_run m ρ hv, ?_⟩
  have hrun := Cert.ReferenceIdeal.StepRun.run_iter (F := Ideal) m' ρ'
    (fun c => ref (Cert.ReferenceIdeal.StepRun.initState m' c)) (fun _ => rfl) (fun _ _ => rfl)
  refine (θ_run _ _ _).mono (fun r h c => ?_) hrun
  obtain ⟨h0, h1, h2, h3, h4, h5, h6, hargs⟩ := h c
  have e := hinit c
  have e1 := (hagree c).2.1
  refine ⟨h0.trans ?_, h1.trans ?_, h2.trans ?_, h3.trans ?_, h4.trans ?_, h5.trans ?_, h6.trans ?_, hargs⟩
  · exact congrArg₂ (fun s x => R_main_v38 (ref s 32) x) e e1
  · exact congrArg (fun s => (ref s 32).main_v13_23) e
  · exact congrArg (fun s => (ref s 32).main_v13_24) e
  · exact congrArg (fun s => R_main_v20 (ref s 32)) e
  · exact congrArg (fun s => R_main_v24 (ref s 32)) e
  · exact congrArg₂ (fun s x => R_main_v36 (ref s 32) x) e e1
  · exact congrArg (fun s => (ref s 32).main_v13_22) e

end Cert.Proof.Final

end
-- ==== Proof.lean ====
/-
  The claims of this directory, assembled from the modules beside it.
-/
module

public import proofs.«01_k».proof.Defs
public import proofs.«01_k».proof.Proof.Gen.Kernel
public import proofs.«01_k».proof.Proof.Gen.KernelIdeal
public import proofs.«01_k».proof.Proof.KernelFrame
public import proofs.«01_k».proof.Proof.KernelIdealFrame
public import proofs.«01_k».proof.Proof.Reference
public import proofs.«01_k».proof.Proof.RefReads
public import proofs.«01_k».proof.Proof.KerReads
public import proofs.«01_k».proof.Proof.Arith
public import proofs.«01_k».proof.Proof.Match
public import proofs.«01_k».proof.Proof.Results
public import proofs.«01_k».proof.Proof.KerValue
public import proofs.«01_k».proof.Proof.KerStart
public import proofs.«01_k».proof.Proof.RefValue
public import proofs.«01_k».proof.Proof.Final

@[expose] public section

noncomputable section

namespace Cert.Proof

open Idealize.ShloMosaic Idealize.SL.Sem

/-- The kernel at machine words runs, leaves its arguments alone and every counter at zero. -/
theorem frame_words : Cert.quiescent_Kernel :=
  fun m ρ _ => θ_run_and (Cert.Kernel.Gen.frame_of m ρ (Kernel.dats m) (Kernel.A_eq m) (Kernel.run_main m ρ))
    (Kernel.counters m ρ)

/-- The same at the ideal numbers. -/
theorem frame_ideal : Cert.quiescent_KernelIdeal :=
  fun m ρ _ => θ_run_and
    (Cert.KernelIdeal.Gen.frame_of m ρ (KernelIdeal.dats m) (KernelIdeal.A_eq m) (KernelIdeal.run_main m ρ))
    (KernelIdeal.counters m ρ)

/-- Kernel and reference run cleanly, and end with equal results wherever the pointer vector is finite. -/
theorem claim : Cert.Claim :=
  ⟨Cert.Kernel.Gen.facts, Cert.KernelIdeal.Gen.facts, Cert.ReferenceIdeal.Gen.facts, RefValue.preFacts,
    frame_words, frame_ideal, fun m ρ _ => frame_ideal m ρ trivial, RefValue.frame, fun m ρ _ => RefValue.frame m ρ trivial,
    trivial, Final.algebraic⟩

end Cert.Proof

end
